-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_last_scale_finite [hPre_last_scale_finite : Cert.Pre_last_scale_finite.Facts] (m : (ℓ : Loc Cert.KernelIdeal.nD Cert.KernelIdeal.τ Cert.KernelIdeal.sig) → Buf (Elt Ideal) ℓ) : Prop :=
  ∀ c : Dev Cert.KernelIdeal.nD,
    (Cert.Pre_last_scale_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_last_scale_finite [hPre_last_scale_finite : Cert.Pre_last_scale_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_last_scale_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_last_scale_finite [hKernelIdeal : Cert.KernelIdeal.Facts] [hPre_last_scale_finite : Cert.Pre_last_scale_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_last_scale_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_last_scale_finite [hReferenceIdeal : Cert.ReferenceIdeal.Facts] [hPre_last_scale_finite : Cert.Pre_last_scale_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_last_scale_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_last_scale_finite [hKernelIdeal : Cert.KernelIdeal.Facts] [hReferenceIdeal : Cert.ReferenceIdeal.Facts] [hPre_last_scale_finite : Cert.Pre_last_scale_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_last_scale_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v484) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_last_scale_finite : Cert.Pre_last_scale_finite.Facts),
    quiescent_Kernel (hKernel := hKernel)
    ∧ quiescent_KernelIdeal (hKernelIdeal := hKernelIdeal)
    ∧ quiescent_KernelIdeal_pre_last_scale_finite (hKernelIdeal := hKernelIdeal) (hPre_last_scale_finite := hPre_last_scale_finite)
    ∧ quiescent_ReferenceIdeal (hReferenceIdeal := hReferenceIdeal)
    ∧ quiescent_ReferenceIdeal_pre_last_scale_finite (hReferenceIdeal := hReferenceIdeal) (hPre_last_scale_finite := hPre_last_scale_finite)
    ∧ preserves_Kernel_KernelIdeal
    ∧ algebraic_KernelIdeal_ReferenceIdeal_pre_last_scale_finite (hKernelIdeal := hKernelIdeal) (hReferenceIdeal := hReferenceIdeal) (hPre_last_scale_finite := hPre_last_scale_finite)
-- ==== Pre_last_scale_finite.lean ====
abbrev S50000x3 : Shape := ⟨2, ![50000, 3]⟩
abbrev S3 : Shape := ⟨1, ![3]⟩
abbrev S2x800000 : Shape := ⟨2, ![2, 800000]⟩
abbrev S3x128 : Shape := ⟨2, ![3, 128]⟩
abbrev S128 : Shape := ⟨1, ![128]⟩
abbrev S3x128x128 : Shape := ⟨3, ![3, 128, 128]⟩
abbrev S3x8x16 : Shape := ⟨3, ![3, 8, 16]⟩
abbrev S3x128x512 : Shape := ⟨3, ![3, 128, 512]⟩
abbrev S3x512 : Shape := ⟨2, ![3, 512]⟩
abbrev S3x512x128 : Shape := ⟨3, ![3, 512, 128]⟩
abbrev S6x128 : Shape := ⟨2, ![6, 128]⟩
abbrev S131x64 : Shape := ⟨2, ![131, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x128 : Shape := ⟨2, ![1, 128]⟩
abbrev S_ : Shape := ⟨0, ![]⟩

class Facts : Prop where
  slices_S6x128_S1x128_5_0 : S6x128.Slices ![5, 0] S1x128
  shapeCasts_S1x128_S128 : S1x128.ShapeCasts S128
  bcast_S_S128 : S_.BroadcastsInDim S128 (![] : Fin 0 → Fin S128.rank)

variable [Facts]

def fn {F : FTy → Type} [FloatOps F] (main_arg0 : FVec F S50000x3 .f32) (main_arg1 : FVec F S3 .f32) (main_arg2 : IVec S2x800000 32) (main_arg3 : FVec F S3x128 .f32) (main_arg4 : FVec F S128 .f32) (main_arg5 : FVec F S3x128x128 .f32) (main_arg6 : FVec F S3x8x16 .f32) (main_arg7 : FVec F S3x8x16 .f32) (main_arg8 : FVec F S3x128 .f32) (main_arg9 : FVec F S3x128x512 .f32) (main_arg10 : FVec F S3x512 .f32) (main_arg11 : FVec F S3x512x128 .f32) (main_arg12 : FVec F S3x128 .f32) (main_arg13 : FVec F S6x128 .f32) (main_arg14 : FVec F S6x128 .f32) (main_arg15 : FVec F S131x64 .f32) (main_arg16 : FVec F S64 .f32) (main_arg17 : FVec F S64x32 .f32) (main_arg18 : FVec F S32 .f32) (main_arg19 : FVec F S32x1 .f32) (main_arg20 : FVec F S1 .f32) : IVec S128 1 :=
  let main_v0 : FVec F S1x128 .f32 := (extractStridedSlice S1x128 ![5, 0] · slices_S6x128_S1x128_5_0) main_arg13
  let main_v1 : FVec F S128 .f32 := shapeCast S128 main_v0 shapeCasts_S1x128_S128
  let main_v2 : FVec F S128 .f32 := Host.absf main_v1
  let main_cst : FVec F S_ .f32 := constant S_ .f32 0x7F800000#32
  let main_v3 : FVec F S128 .f32 := broadcastInDim S128 ![] bcast_S_S128 main_cst
  let main_v4 : IVec S128 1 := cmpf .olt main_v2 main_v3
  main_v4
-- ==== Kernel.lean ====
abbrev S50000x3 : Shape := ⟨2, ![50000, 3]⟩
abbrev S3 : Shape := ⟨1, ![3]⟩
abbrev S2x800000 : Shape := ⟨2, ![2, 800000]⟩
abbrev S3x128 : Shape := ⟨2, ![3, 128]⟩
abbrev S128 : Shape := ⟨1, ![128]⟩
abbrev S3x128x128 : Shape := ⟨3, ![3, 128, 128]⟩
abbrev S3x8x16 : Shape := ⟨3, ![3, 8, 16]⟩
abbrev S3x128x512 : Shape := ⟨3, ![3, 128, 512]⟩
abbrev S3x512 : Shape := ⟨2, ![3, 512]⟩
abbrev S3x512x128 : Shape := ⟨3, ![3, 512, 128]⟩
abbrev S6x128 : Shape := ⟨2, ![6, 128]⟩
abbrev S131x64 : Shape := ⟨2, ![131, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x128 : Shape := ⟨2, ![1, 128]⟩
abbrev S1x3 : Shape := ⟨2, ![1, 3]⟩
abbrev S128x64 : Shape := ⟨2, ![128, 64]⟩
abbrev S3x64 : Shape := ⟨2, ![3, 64]⟩
abbrev S1x64 : Shape := ⟨2, ![1, 64]⟩
abbrev S1x32 : Shape := ⟨2, ![1, 32]⟩
abbrev S1x1 : Shape := ⟨2, ![1, 1]⟩
abbrev S3x1 : Shape := ⟨2, ![3, 1]⟩

abbrev nBuf : Space → Nat
  | .hbm => 32
  | .vmem => 10
  | .smem => 0
  | _ => 0

abbrev bufTy : (tb : Table) → Fin (tcTables nBuf tb) → BufTy
  | .hbm, ⟨0, _⟩ => ⟨S50000x3, .f32⟩
  | .hbm, ⟨1, _⟩ => ⟨S3, .f32⟩
  | .hbm, ⟨2, _⟩ => ⟨S2x800000, .i32⟩
  | .hbm, ⟨3, _⟩ => ⟨S3x128, .f32⟩
  | .hbm, ⟨4, _⟩ => ⟨S128, .f32⟩
  | .hbm, ⟨5, _⟩ => ⟨S3x128x128, .f32⟩
  | .hbm, ⟨6, _⟩ => ⟨S3x8x16, .f32⟩
  | .hbm, ⟨7, _⟩ => ⟨S3x8x16, .f32⟩
  | .hbm, ⟨8, _⟩ => ⟨S3x128, .f32⟩
  | .hbm, ⟨9, _⟩ => ⟨S3x128x512, .f32⟩
  | .hbm, ⟨10, _⟩ => ⟨S3x512, .f32⟩
  | .hbm, ⟨11, _⟩ => ⟨S3x512x128, .f32⟩
  | .hbm, ⟨12, _⟩ => ⟨S3x128, .f32⟩
  | .hbm, ⟨13, _⟩ => ⟨S6x128, .f32⟩
  | .hbm, ⟨14, _⟩ => ⟨S6x128, .f32⟩
  | .hbm, ⟨15, _⟩ => ⟨S131x64, .f32⟩
  | .hbm, ⟨16, _⟩ => ⟨S64, .f32⟩
  | .hbm, ⟨17, _⟩ => ⟨S64x32, .f32⟩
  | .hbm, ⟨18, _⟩ => ⟨S32, .f32⟩
  | .hbm, ⟨19, _⟩ => ⟨S32x1, .f32⟩
  | .hbm, ⟨20, _⟩ => ⟨S1, .f32⟩
  | .hbm, ⟨21, _⟩ => ⟨S1x128, .f32⟩
  | .hbm, ⟨22, _⟩ => ⟨S128, .f32⟩
  | .hbm, ⟨23, _⟩ => ⟨S1x128, .f32⟩
  | .hbm, ⟨24, _⟩ => ⟨S1x3, .f32⟩
  | .hbm, ⟨25, _⟩ => ⟨S128x64, .f32⟩
  | .hbm, ⟨26, _⟩ => ⟨S3x64, .f32⟩
  | .hbm, ⟨27, _⟩ => ⟨S1x64, .f32⟩
  | .hbm, ⟨28, _⟩ => ⟨S1x32, .f32⟩
  | .hbm, ⟨29, _⟩ => ⟨S1x1, .f32⟩
  | .hbm, ⟨30, _⟩ => ⟨S1x1, .f32⟩
  | .hbm, ⟨31, _⟩ => ⟨S1, .f32⟩
  | .local _ .vmem, ⟨0, _⟩ => ⟨S1x128, .f32⟩
  | .local _ .vmem, ⟨1, _⟩ => ⟨S1x3, .f32⟩
  | .local _ .vmem, ⟨2, _⟩ => ⟨S128x64, .f32⟩
  | .local _ .vmem, ⟨3, _⟩ => ⟨S3x64, .f32⟩
  | .local _ .vmem, ⟨4, _⟩ => ⟨S1x64, .f32⟩
  | .local _ .vmem, ⟨5, _⟩ => ⟨S64x32, .f32⟩
  | .local _ .vmem, ⟨6, _⟩ => ⟨S1x32, .f32⟩
  | .local _ .vmem, ⟨7, _⟩ => ⟨S32x1, .f32⟩
  | .local _ .vmem, ⟨8, _⟩ => ⟨S1x1, .f32⟩
  | .local _ .vmem, ⟨9, _⟩ => ⟨S1x1, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S50000x3 : Shape := ⟨2, ![50000, 3]⟩
abbrev S3 : Shape := ⟨1, ![3]⟩
abbrev S2x800000 : Shape := ⟨2, ![2, 800000]⟩
abbrev S3x128 : Shape := ⟨2, ![3, 128]⟩
abbrev S128 : Shape := ⟨1, ![128]⟩
abbrev S3x128x128 : Shape := ⟨3, ![3, 128, 128]⟩
abbrev S3x8x16 : Shape := ⟨3, ![3, 8, 16]⟩
abbrev S3x128x512 : Shape := ⟨3, ![3, 128, 512]⟩
abbrev S3x512 : Shape := ⟨2, ![3, 512]⟩
abbrev S3x512x128 : Shape := ⟨3, ![3, 512, 128]⟩
abbrev S6x128 : Shape := ⟨2, ![6, 128]⟩
abbrev S131x64 : Shape := ⟨2, ![131, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S50000x128 : Shape := ⟨2, ![50000, 128]⟩
abbrev S1x128 : Shape := ⟨2, ![1, 128]⟩
abbrev S1x128x128 : Shape := ⟨3, ![1, 128, 128]⟩
abbrev S128x128 : Shape := ⟨2, ![128, 128]⟩
abbrev S1x8x16 : Shape := ⟨3, ![1, 8, 16]⟩
abbrev S8x16 : Shape := ⟨2, ![8, 16]⟩
abbrev S50000x8x16 : Shape := ⟨3, ![50000, 8, 16]⟩
abbrev S_ : Shape := ⟨0, ![]⟩
abbrev S50000x8 : Shape := ⟨2, ![50000, 8]⟩
abbrev S800000x1 : Shape := ⟨2, ![800000, 1]⟩
abbrev S800000x8 : Shape := ⟨2, ![800000, 8]⟩
abbrev S1x800000x1 : Shape := ⟨3, ![1, 800000, 1]⟩
abbrev S50000 : Shape := ⟨1, ![50000]⟩
abbrev S50000x1x1 : Shape := ⟨3, ![50000, 1, 1]⟩
abbrev S50000x800000x1 : Shape := ⟨3, ![50000, 800000, 1]⟩
abbrev S1x800000x8 : Shape := ⟨3, ![1, 800000, 8]⟩
abbrev S50000x800000x8 : Shape := ⟨3, ![50000, 800000, 8]⟩
abbrev S800000x8x16 : Shape := ⟨3, ![800000, 8, 16]⟩
abbrev S800000x8x1 : Shape := ⟨3, ![800000, 8, 1]⟩
abbrev S1x128x512 : Shape := ⟨3, ![1, 128, 512]⟩
abbrev S128x512 : Shape := ⟨2, ![128, 512]⟩
abbrev S50000x512 : Shape := ⟨2, ![50000, 512]⟩
abbrev S1x512 : Shape := ⟨2, ![1, 512]⟩
abbrev S512 : Shape := ⟨1, ![512]⟩
abbrev S1x512x128 : Shape := ⟨3, ![1, 512, 128]⟩
abbrev S512x128 : Shape := ⟨2, ![512, 128]⟩
abbrev S131 : Shape := ⟨1, ![131]⟩

abbrev nBuf : Space → Nat
  | .hbm => 749
  | .vmem => 0
  | .smem => 0
  | _ => 0

abbrev hbmTy0_0 (i : Nat) : BufTy := match i % 128 with
  | 0 => ⟨S50000x3, .f32⟩
  | 1 => ⟨S3, .f32⟩
  | 2 => ⟨S2x800000, .i32⟩
  | 3 => ⟨S3x128, .f32⟩
  | 4 => ⟨S128, .f32⟩
  | 5 => ⟨S3x128x128, .f32⟩
  | 6 => ⟨S3x8x16, .f32⟩
  | 7 => ⟨S3x8x16, .f32⟩
  | 8 => ⟨S3x128, .f32⟩
  | 9 => ⟨S3x128x512, .f32⟩
  | 10 => ⟨S3x512, .f32⟩
  | 11 => ⟨S3x512x128, .f32⟩
  | 12 => ⟨S3x128, .f32⟩
  | 13 => ⟨S6x128, .f32⟩
  | 14 => ⟨S6x128, .f32⟩
  | 15 => ⟨S131x64, .f32⟩
  | 16 => ⟨S64, .f32⟩
  | 17 => ⟨S64x32, .f32⟩
  | 18 => ⟨S32, .f32⟩
  | 19 => ⟨S32x1, .f32⟩
  | 20 => ⟨S1, .f32⟩
  | 21 => ⟨S1x800000, .i32⟩
  | 22 => ⟨S800000, .i32⟩
  | 23 => ⟨S1x800000, .i32⟩
  | 24 => ⟨S800000, .i32⟩
  | 25 => ⟨S50000x128, .f32⟩
  | 26 => ⟨S1x128, .f32⟩
  | 27 => ⟨S50000x128, .f32⟩
  | 28 => ⟨S50000x128, .f32⟩
  | 29 => ⟨S1x128x128, .f32⟩
  | 30 => ⟨S128x128, .f32⟩
  | 31 => ⟨S1x8x16, .f32⟩
  | 32 => ⟨S8x16, .f32⟩
  | 33 => ⟨S1x8x16, .f32⟩
  | 34 => ⟨S8x16, .f32⟩
  | 35 => ⟨S1x128, .f32⟩
  | 36 => ⟨S128, .f32⟩
  | 37 => ⟨S50000x128, .f32⟩
  | 38 => ⟨S50000x8x16, .f32⟩
  | 39 => ⟨S1x8x16, .f32⟩
  | 40 => ⟨S50000x8x16, .f32⟩
  | 41 => ⟨S50000x8x16, .f32⟩
  | 42 => ⟨S_, .f32⟩
  | 43 => ⟨S50000x8, .f32⟩
  | 44 => ⟨S1x8x16, .f32⟩
  | 45 => ⟨S50000x8x16, .f32⟩
  | 46 => ⟨S50000x8x16, .f32⟩
  | 47 => ⟨S_, .f32⟩
  | 48 => ⟨S50000x8, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x8, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x8, .f32⟩
  | 67 => ⟨S800000x8, .f32⟩
  | 68 => ⟨S_, .f32⟩
  | 69 => ⟨S800000x8, .f32⟩
  | 70 => ⟨S800000x8, .i1⟩
  | 71 => ⟨S_, .f32⟩
  | 72 => ⟨S800000x8, .f32⟩
  | 73 => ⟨S800000x8, .f32⟩
  | 74 => ⟨S800000x8, .f32⟩
  | 75 => ⟨S1x800000x1, .i32⟩
  | 76 => ⟨S50000, .i32⟩
  | 77 => ⟨S50000x1x1, .i32⟩
  | 78 => ⟨S50000x800000x1, .i32⟩
  | 79 => ⟨S50000x800000x1, .i32⟩
  | 80 => ⟨S50000x800000x1, .i1⟩
  | 81 => ⟨S1x800000x8, .f32⟩
  | 82 => ⟨S_, .f32⟩
  | 83 => ⟨S_, .f32⟩
  | 84 => ⟨S50000x800000x8, .i1⟩
  | 85 => ⟨S50000x800000x8, .f32⟩
  | 86 => ⟨S50000x800000x8, .f32⟩
  | 87 => ⟨S50000x800000x8, .f32⟩
  | 88 => ⟨S_, .f32⟩
  | 89 => ⟨S50000x8, .f32⟩
  | 90 => ⟨S50000x8, .f32⟩
  | 91 => ⟨S_, .f32⟩
  | 92 => ⟨S50000x8, .f32⟩
  | 93 => ⟨S50000x8, .i1⟩
  | 94 => ⟨S_, .f32⟩
  | 95 => ⟨S_, .f32⟩
  | 96 => ⟨S50000x8, .f32⟩
  | 97 => ⟨S50000x8, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x8, .f32⟩
  | 107 => ⟨S800000x8, .f32⟩
  | 108 => ⟨S800000x8, .f32⟩
  | 109 => ⟨S_, .f32⟩
  | 110 => ⟨S50000x8, .f32⟩
  | 111 => ⟨S800000x1, .i32⟩
  | 112 => ⟨S50000x8, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x8, .f32⟩
  | 122 => ⟨S_, .f32⟩
  | 123 => ⟨S800000x8, .f32⟩
  | 124 => ⟨S800000x8, .f32⟩
  | 125 => ⟨S800000x8, .f32⟩
  | 126 => ⟨S_, .i32⟩
  | 127 => ⟨S800000, .i32⟩
  | _ => ⟨S50000x3, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x8x16, .f32⟩
  | 7 => ⟨S800000x8x1, .f32⟩
  | 8 => ⟨S800000x8x16, .f32⟩
  | 9 => ⟨S800000x8x16, .f32⟩
  | 10 => ⟨S_, .f32⟩
  | 11 => ⟨S50000x8x16, .f32⟩
  | 12 => ⟨S800000x1, .i32⟩
  | 13 => ⟨S50000x8x16, .f32⟩
  | 14 => ⟨S50000x128, .f32⟩
  | 15 => ⟨S1x128, .f32⟩
  | 16 => ⟨S50000x128, .f32⟩
  | 17 => ⟨S50000x128, .f32⟩
  | 18 => ⟨S50000x128, .f32⟩
  | 19 => ⟨S1x128, .f32⟩
  | 20 => ⟨S128, .f32⟩
  | 21 => ⟨S1x128, .f32⟩
  | 22 => ⟨S128, .f32⟩
  | 23 => ⟨S_, .f32⟩
  | 24 => ⟨S128, .f32⟩
  | 25 => ⟨S_, .f32⟩
  | 26 => ⟨S128, .f32⟩
  | 27 => ⟨S128, .f32⟩
  | 28 => ⟨S_, .i32⟩
  | 29 => ⟨S_, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S50000x128, .f32⟩
  | 36 => ⟨S50000x128, .f32⟩
  | 37 => ⟨S50000x128, .f32⟩
  | 38 => ⟨S_, .f32⟩
  | 39 => ⟨S_, .f32⟩
  | 40 => ⟨S_, .f32⟩
  | 41 => ⟨S_, .f32⟩
  | 42 => ⟨S128, .f32⟩
  | 43 => ⟨S128, .f32⟩
  | 44 => ⟨S128, .f32⟩
  | 45 => ⟨S_, .f32⟩
  | 46 => ⟨S_, .i1⟩
  | 47 => ⟨S_, .f32⟩
  | 48 => ⟨S_, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S_, .f32⟩
  | 55 => ⟨S128, .f32⟩
  | 56 => ⟨S128, .f32⟩
  | 57 => ⟨S128, .f32⟩
  | 58 => ⟨S1x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S1x128x512, .f32⟩
  | 68 => ⟨S128x512, .f32⟩
  | 69 => ⟨S50000x512, .f32⟩
  | 70 => ⟨S1x512, .f32⟩
  | 71 => ⟨S512, .f32⟩
  | 72 => ⟨S1x512, .f32⟩
  | 73 => ⟨S50000x512, .f32⟩
  | 74 => ⟨S50000x512, .f32⟩
  | 75 => ⟨S_, .f32⟩
  | 76 => ⟨S50000x512, .f32⟩
  | 77 => ⟨S50000x512, .f32⟩
  | 78 => ⟨S1x512x128, .f32⟩
  | 79 => ⟨S512x128, .f32⟩
  | 80 => ⟨S50000x128, .f32⟩
  | 81 => ⟨S1x128, .f32⟩
  | 82 => ⟨S128, .f32⟩
  | 83 => ⟨S1x128, .f32⟩
  | 84 => ⟨S50000x128, .f32⟩
  | 85 => ⟨S50000x128, .f32⟩
  | 86 => ⟨S50000x128, .f32⟩
  | 87 => ⟨S1x128, .f32⟩
  | 88 => ⟨S128, .f32⟩
  | 89 => ⟨S1x128, .f32⟩
  | 90 => ⟨S128, .f32⟩
  | 91 => ⟨S_, .f32⟩
  | 92 => ⟨S128, .f32⟩
  | 93 => ⟨S_, .f32⟩
  | 94 => ⟨S128, .f32⟩
  | 95 => ⟨S128, .f32⟩
  | 96 => ⟨S_, .i32⟩
  | 97 => ⟨S_, .f32⟩
  | 98 => ⟨S128, .f32⟩
  | 99 => ⟨S1x128, .f32⟩
  | 100 => ⟨S_, .f32⟩
  | 101 => ⟨S1x128, .f32⟩
  | 102 => ⟨S1x128, .f32⟩
  | 103 => ⟨S50000x128, .f32⟩
  | 104 => ⟨S50000x128, .f32⟩
  | 105 => ⟨S50000x128, .f32⟩
  | 106 => ⟨S_, .f32⟩
  | 107 => ⟨S_, .f32⟩
  | 108 => ⟨S_, .f32⟩
  | 109 => ⟨S_, .f32⟩
  | 110 => ⟨S128, .f32⟩
  | 111 => ⟨S128, .f32⟩
  | 112 => ⟨S128, .f32⟩
  | 113 => ⟨S_, .f32⟩
  | 114 => ⟨S_, .i1⟩
  | 115 => ⟨S_, .f32⟩
  | 116 => ⟨S_, .f32⟩
  | 117 => ⟨S128, .f32⟩
  | 118 => ⟨S128, .f32⟩
  | 119 => ⟨S1x128, .f32⟩
  | 120 => ⟨S50000x128, .f32⟩
  | 121 => ⟨S50000x128, .f32⟩
  | 122 => ⟨S_, .f32⟩
  | 123 => ⟨S128, .f32⟩
  | 124 => ⟨S128, .f32⟩
  | 125 => ⟨S128, .f32⟩
  | 126 => ⟨S1x128, .f32⟩
  | 127 => ⟨S50000x128, .f32⟩
  | _ => ⟨S50000x3, .f32⟩

abbrev hbmTy0_2 (i : Nat) : BufTy := match i % 128 with
  | 0 => ⟨S50000x128, .f32⟩
  | 1 => ⟨S1x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S1x128x128, .f32⟩
  | 8 => ⟨S128x128, .f32⟩
  | 9 => ⟨S1x8x16, .f32⟩
  | 10 => ⟨S8x16, .f32⟩
  | 11 => ⟨S1x8x16, .f32⟩
  | 12 => ⟨S8x16, .f32⟩
  | 13 => ⟨S1x128, .f32⟩
  | 14 => ⟨S128, .f32⟩
  | 15 => ⟨S50000x128, .f32⟩
  | 16 => ⟨S50000x8x16, .f32⟩
  | 17 => ⟨S1x8x16, .f32⟩
  | 18 => ⟨S50000x8x16, .f32⟩
  | 19 => ⟨S50000x8x16, .f32⟩
  | 20 => ⟨S_, .f32⟩
  | 21 => ⟨S50000x8, .f32⟩
  | 22 => ⟨S1x8x16, .f32⟩
  | 23 => ⟨S50000x8x16, .f32⟩
  | 24 => ⟨S50000x8x16, .f32⟩
  | 25 => ⟨S_, .f32⟩
  | 26 => ⟨S50000x8, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x8, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x8, .f32⟩
  | 45 => ⟨S800000x8, .f32⟩
  | 46 => ⟨S_, .f32⟩
  | 47 => ⟨S800000x8, .f32⟩
  | 48 => ⟨S800000x8, .i1⟩
  | 49 => ⟨S_, .f32⟩
  | 50 => ⟨S800000x8, .f32⟩
  | 51 => ⟨S800000x8, .f32⟩
  | 52 => ⟨S800000x8, .f32⟩
  | 53 => ⟨S1x800000x1, .i32⟩
  | 54 => ⟨S50000, .i32⟩
  | 55 => ⟨S50000x1x1, .i32⟩
  | 56 => ⟨S50000x800000x1, .i32⟩
  | 57 => ⟨S50000x800000x1, .i32⟩
  | 58 => ⟨S50000x800000x1, .i1⟩
  | 59 => ⟨S1x800000x8, .f32⟩
  | 60 => ⟨S_, .f32⟩
  | 61 => ⟨S_, .f32⟩
  | 62 => ⟨S50000x800000x8, .i1⟩
  | 63 => ⟨S50000x800000x8, .f32⟩
  | 64 => ⟨S50000x800000x8, .f32⟩
  | 65 => ⟨S50000x800000x8, .f32⟩
  | 66 => ⟨S_, .f32⟩
  | 67 => ⟨S50000x8, .f32⟩
  | 68 => ⟨S50000x8, .f32⟩
  | 69 => ⟨S_, .f32⟩
  | 70 => ⟨S50000x8, .f32⟩
  | 71 => ⟨S50000x8, .i1⟩
  | 72 => ⟨S_, .f32⟩
  | 73 => ⟨S_, .f32⟩
  | 74 => ⟨S50000x8, .f32⟩
  | 75 => ⟨S50000x8, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x8, .f32⟩
  | 85 => ⟨S800000x8, .f32⟩
  | 86 => ⟨S800000x8, .f32⟩
  | 87 => ⟨S_, .f32⟩
  | 88 => ⟨S50000x8, .f32⟩
  | 89 => ⟨S800000x1, .i32⟩
  | 90 => ⟨S50000x8, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x8, .f32⟩
  | 100 => ⟨S_, .f32⟩
  | 101 => ⟨S800000x8, .f32⟩
  | 102 => ⟨S800000x8, .f32⟩
  | 103 => ⟨S800000x8, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x8x16, .f32⟩
  | 113 => ⟨S800000x8x1, .f32⟩
  | 114 => ⟨S800000x8x16, .f32⟩
  | 115 => ⟨S800000x8x16, .f32⟩
  | 116 => ⟨S_, .f32⟩
  | 117 => ⟨S50000x8x16, .f32⟩
  | 118 => ⟨S800000x1, .i32⟩
  | 119 => ⟨S50000x8x16, .f32⟩
  | 120 => ⟨S50000x128, .f32⟩
  | 121 => ⟨S1x128, .f32⟩
  | 122 => ⟨S50000x128, .f32⟩
  | 123 => ⟨S50000x128, .f32⟩
  | 124 => ⟨S50000x128, .f32⟩
  | 125 => ⟨S1x128, .f32⟩
  | 126 => ⟨S128, .f32⟩
  | 127 => ⟨S1x128, .f32⟩
  | _ => ⟨S50000x3, .f32⟩

abbrev hbmTy0_3 (i : Nat) : BufTy := match i % 128 with
  | 0 => ⟨S128, .f32⟩
  | 1 => ⟨S_, .f32⟩
  | 2 => ⟨S128, .f32⟩
  | 3 => ⟨S_, .f32⟩
  | 4 => ⟨S128, .f32⟩
  | 5 => ⟨S128, .f32⟩
  | 6 => ⟨S_, .i32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S50000x128, .f32⟩
  | 14 => ⟨S50000x128, .f32⟩
  | 15 => ⟨S50000x128, .f32⟩
  | 16 => ⟨S_, .f32⟩
  | 17 => ⟨S_, .f32⟩
  | 18 => ⟨S_, .f32⟩
  | 19 => ⟨S_, .f32⟩
  | 20 => ⟨S128, .f32⟩
  | 21 => ⟨S128, .f32⟩
  | 22 => ⟨S128, .f32⟩
  | 23 => ⟨S_, .f32⟩
  | 24 => ⟨S_, .i1⟩
  | 25 => ⟨S_, .f32⟩
  | 26 => ⟨S_, .f32⟩
  | 27 => ⟨S128, .f32⟩
  | 28 => ⟨S128, .f32⟩
  | 29 => ⟨S1x128, .f32⟩
  | 30 => ⟨S50000x128, .f32⟩
  | 31 => ⟨S50000x128, .f32⟩
  | 32 => ⟨S_, .f32⟩
  | 33 => ⟨S128, .f32⟩
  | 34 => ⟨S128, .f32⟩
  | 35 => ⟨S128, .f32⟩
  | 36 => ⟨S1x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S1x128x512, .f32⟩
  | 46 => ⟨S128x512, .f32⟩
  | 47 => ⟨S50000x512, .f32⟩
  | 48 => ⟨S1x512, .f32⟩
  | 49 => ⟨S512, .f32⟩
  | 50 => ⟨S1x512, .f32⟩
  | 51 => ⟨S50000x512, .f32⟩
  | 52 => ⟨S50000x512, .f32⟩
  | 53 => ⟨S_, .f32⟩
  | 54 => ⟨S50000x512, .f32⟩
  | 55 => ⟨S50000x512, .f32⟩
  | 56 => ⟨S1x512x128, .f32⟩
  | 57 => ⟨S512x128, .f32⟩
  | 58 => ⟨S50000x128, .f32⟩
  | 59 => ⟨S1x128, .f32⟩
  | 60 => ⟨S128, .f32⟩
  | 61 => ⟨S1x128, .f32⟩
  | 62 => ⟨S50000x128, .f32⟩
  | 63 => ⟨S50000x128, .f32⟩
  | 64 => ⟨S50000x128, .f32⟩
  | 65 => ⟨S1x128, .f32⟩
  | 66 => ⟨S128, .f32⟩
  | 67 => ⟨S1x128, .f32⟩
  | 68 => ⟨S128, .f32⟩
  | 69 => ⟨S_, .f32⟩
  | 70 => ⟨S128, .f32⟩
  | 71 => ⟨S_, .f32⟩
  | 72 => ⟨S128, .f32⟩
  | 73 => ⟨S128, .f32⟩
  | 74 => ⟨S_, .i32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S50000x128, .f32⟩
  | 82 => ⟨S50000x128, .f32⟩
  | 83 => ⟨S50000x128, .f32⟩
  | 84 => ⟨S_, .f32⟩
  | 85 => ⟨S_, .f32⟩
  | 86 => ⟨S_, .f32⟩
  | 87 => ⟨S_, .f32⟩
  | 88 => ⟨S128, .f32⟩
  | 89 => ⟨S128, .f32⟩
  | 90 => ⟨S128, .f32⟩
  | 91 => ⟨S_, .f32⟩
  | 92 => ⟨S_, .i1⟩
  | 93 => ⟨S_, .f32⟩
  | 94 => ⟨S_, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S128, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S1x128x128, .f32⟩
  | 114 => ⟨S128x128, .f32⟩
  | 115 => ⟨S1x8x16, .f32⟩
  | 116 => ⟨S8x16, .f32⟩
  | 117 => ⟨S1x8x16, .f32⟩
  | 118 => ⟨S8x16, .f32⟩
  | 119 => ⟨S1x128, .f32⟩
  | 120 => ⟨S128, .f32⟩
  | 121 => ⟨S50000x128, .f32⟩
  | 122 => ⟨S50000x8x16, .f32⟩
  | 123 => ⟨S1x8x16, .f32⟩
  | 124 => ⟨S50000x8x16, .f32⟩
  | 125 => ⟨S50000x8x16, .f32⟩
  | 126 => ⟨S_, .f32⟩
  | 127 => ⟨S50000x8, .f32⟩
  | _ => ⟨S50000x3, .f32⟩

abbrev hbmTy0_4 (i : Nat) : BufTy := match i % 128 with
  | 0 => ⟨S1x8x16, .f32⟩
  | 1 => ⟨S50000x8x16, .f32⟩
  | 2 => ⟨S50000x8x16, .f32⟩
  | 3 => ⟨S_, .f32⟩
  | 4 => ⟨S50000x8, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x8, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x8, .f32⟩
  | 23 => ⟨S800000x8, .f32⟩
  | 24 => ⟨S_, .f32⟩
  | 25 => ⟨S800000x8, .f32⟩
  | 26 => ⟨S800000x8, .i1⟩
  | 27 => ⟨S_, .f32⟩
  | 28 => ⟨S800000x8, .f32⟩
  | 29 => ⟨S800000x8, .f32⟩
  | 30 => ⟨S800000x8, .f32⟩
  | 31 => ⟨S1x800000x1, .i32⟩
  | 32 => ⟨S50000, .i32⟩
  | 33 => ⟨S50000x1x1, .i32⟩
  | 34 => ⟨S50000x800000x1, .i32⟩
  | 35 => ⟨S50000x800000x1, .i32⟩
  | 36 => ⟨S50000x800000x1, .i1⟩
  | 37 => ⟨S1x800000x8, .f32⟩
  | 38 => ⟨S_, .f32⟩
  | 39 => ⟨S_, .f32⟩
  | 40 => ⟨S50000x800000x8, .i1⟩
  | 41 => ⟨S50000x800000x8, .f32⟩
  | 42 => ⟨S50000x800000x8, .f32⟩
  | 43 => ⟨S50000x800000x8, .f32⟩
  | 44 => ⟨S_, .f32⟩
  | 45 => ⟨S50000x8, .f32⟩
  | 46 => ⟨S50000x8, .f32⟩
  | 47 => ⟨S_, .f32⟩
  | 48 => ⟨S50000x8, .f32⟩
  | 49 => ⟨S50000x8, .i1⟩
  | 50 => ⟨S_, .f32⟩
  | 51 => ⟨S_, .f32⟩
  | 52 => ⟨S50000x8, .f32⟩
  | 53 => ⟨S50000x8, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x8, .f32⟩
  | 63 => ⟨S800000x8, .f32⟩
  | 64 => ⟨S800000x8, .f32⟩
  | 65 => ⟨S_, .f32⟩
  | 66 => ⟨S50000x8, .f32⟩
  | 67 => ⟨S800000x1, .i32⟩
  | 68 => ⟨S50000x8, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x8, .f32⟩
  | 78 => ⟨S_, .f32⟩
  | 79 => ⟨S800000x8, .f32⟩
  | 80 => ⟨S800000x8, .f32⟩
  | 81 => ⟨S800000x8, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x8x16, .f32⟩
  | 91 => ⟨S800000x8x1, .f32⟩
  | 92 => ⟨S800000x8x16, .f32⟩
  | 93 => ⟨S800000x8x16, .f32⟩
  | 94 => ⟨S_, .f32⟩
  | 95 => ⟨S50000x8x16, .f32⟩
  | 96 => ⟨S800000x1, .i32⟩
  | 97 => ⟨S50000x8x16, .f32⟩
  | 98 => ⟨S50000x128, .f32⟩
  | 99 => ⟨S1x128, .f32⟩
  | 100 => ⟨S50000x128, .f32⟩
  | 101 => ⟨S50000x128, .f32⟩
  | 102 => ⟨S50000x128, .f32⟩
  | 103 => ⟨S1x128, .f32⟩
  | 104 => ⟨S128, .f32⟩
  | 105 => ⟨S1x128, .f32⟩
  | 106 => ⟨S128, .f32⟩
  | 107 => ⟨S_, .f32⟩
  | 108 => ⟨S128, .f32⟩
  | 109 => ⟨S_, .f32⟩
  | 110 => ⟨S128, .f32⟩
  | 111 => ⟨S128, .f32⟩
  | 112 => ⟨S_, .i32⟩
  | 113 => ⟨S_, .f32⟩
  | 114 => ⟨S128, .f32⟩
  | 115 => ⟨S1x128, .f32⟩
  | 116 => ⟨S_, .f32⟩
  | 117 => ⟨S1x128, .f32⟩
  | 118 => ⟨S1x128, .f32⟩
  | 119 => ⟨S50000x128, .f32⟩
  | 120 => ⟨S50000x128, .f32⟩
  | 121 => ⟨S50000x128, .f32⟩
  | 122 => ⟨S_, .f32⟩
  | 123 => ⟨S_, .f32⟩
  | 124 => ⟨S_, .f32⟩
  | 125 => ⟨S_, .f32⟩
  | 126 => ⟨S128, .f32⟩
  | 127 => ⟨S128, .f32⟩
  | _ => ⟨S50000x3, .f32⟩

abbrev hbmTy0_5 (i : Nat) : BufTy := match i % 128 with
  | 0 => ⟨S128, .f32⟩
  | 1 => ⟨S_, .f32⟩
  | 2 => ⟨S_, .i1⟩
  | 3 => ⟨S_, .f32⟩
  | 4 => ⟨S_, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S_, .f32⟩
  | 11 => ⟨S128, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S1x128x512, .f32⟩
  | 24 => ⟨S128x512, .f32⟩
  | 25 => ⟨S50000x512, .f32⟩
  | 26 => ⟨S1x512, .f32⟩
  | 27 => ⟨S512, .f32⟩
  | 28 => ⟨S1x512, .f32⟩
  | 29 => ⟨S50000x512, .f32⟩
  | 30 => ⟨S50000x512, .f32⟩
  | 31 => ⟨S_, .f32⟩
  | 32 => ⟨S50000x512, .f32⟩
  | 33 => ⟨S50000x512, .f32⟩
  | 34 => ⟨S1x512x128, .f32⟩
  | 35 => ⟨S512x128, .f32⟩
  | 36 => ⟨S50000x128, .f32⟩
  | 37 => ⟨S1x128, .f32⟩
  | 38 => ⟨S128, .f32⟩
  | 39 => ⟨S1x128, .f32⟩
  | 40 => ⟨S50000x128, .f32⟩
  | 41 => ⟨S50000x128, .f32⟩
  | 42 => ⟨S50000x128, .f32⟩
  | 43 => ⟨S1x128, .f32⟩
  | 44 => ⟨S128, .f32⟩
  | 45 => ⟨S1x128, .f32⟩
  | 46 => ⟨S128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S50000x128, .f32⟩
  | 60 => ⟨S50000x128, .f32⟩
  | 61 => ⟨S50000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S_, .f32⟩
  | 79 => ⟨S128, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S128, .f32⟩
  | 93 => ⟨S_, .f32⟩
  | 94 => ⟨S128, .f32⟩
  | 95 => ⟨S128, .f32⟩
  | 96 => ⟨S131, .f32⟩
  | 97 => ⟨S64, .f32⟩
  | 98 => ⟨S64, .f32⟩
  | 99 => ⟨S_, .f32⟩
  | 100 => ⟨S64, .f32⟩
  | 101 => ⟨S64, .f32⟩
  | 102 => ⟨S32, .f32⟩
  | 103 => ⟨S32, .f32⟩
  | 104 => ⟨S_, .f32⟩
  | 105 => ⟨S32, .f32⟩
  | 106 => ⟨S32, .f32⟩
  | 107 => ⟨S1, .f32⟩
  | 108 => ⟨S1, .f32⟩
  | _ => ⟨S50000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_0 : Ref sig .tc := ⟨.hbm, 47, rfl⟩
abbrev main_v25 : Ref sig .tc := ⟨.hbm, 48, rfl⟩
abbrev main_c : Ref sig .tc := ⟨.hbm, 49, rfl⟩
abbrev main_v26 : Ref sig .tc := ⟨.hbm, 50, rfl⟩
abbrev main_v27 : Ref sig .tc := ⟨.hbm, 51, rfl⟩
abbrev main_c_1 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_2 : Ref sig .tc := ⟨.hbm, 58, rfl⟩
abbrev main_v33 : Ref sig .tc := ⟨.hbm, 59, rfl⟩
abbrev main_v34 : Ref sig .tc := ⟨.hbm, 60, rfl⟩
abbrev main_c_3 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_4 : Ref sig .tc := ⟨.hbm, 68, rfl⟩
abbrev main_v41 : Ref sig .tc := ⟨.hbm, 69, rfl⟩
abbrev main_v42 : Ref sig .tc := ⟨.hbm, 70, rfl⟩
abbrev main_cst_5 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_6 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_v53 : Ref sig .tc := ⟨.hbm, 87, rfl⟩
abbrev main_cst_7 : Ref sig .tc := ⟨.hbm, 88, rfl⟩
abbrev main_v54 : Ref sig .tc := ⟨.hbm, 89, rfl⟩
abbrev main_v55 : Ref sig .tc := ⟨.hbm, 90, rfl⟩
abbrev main_cst_8 : Ref sig .tc := ⟨.hbm, 91, rfl⟩
abbrev main_v56 : Ref sig .tc := ⟨.hbm, 92, rfl⟩
abbrev main_v57 : Ref sig .tc := ⟨.hbm, 93, rfl⟩
abbrev main_cst_9 : Ref sig .tc := ⟨.hbm, 94, rfl⟩
abbrev main_call2_v0 : Ref sig .tc := ⟨.hbm, 95, rfl⟩
abbrev main_call2_v1 : Ref sig .tc := ⟨.hbm, 96, rfl⟩
abbrev main_v58 : Ref sig .tc := ⟨.hbm, 97, rfl⟩
abbrev main_c_10 : Ref sig .tc := ⟨.hbm, 98, rfl⟩
abbrev main_v59 : Ref sig .tc := ⟨.hbm, 99, rfl⟩
abbrev main_v60 : Ref sig .tc := ⟨.hbm, 100, rfl⟩
abbrev main_c_11 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_12 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_c_13 : Ref sig .tc := ⟨.hbm, 113, rfl⟩
abbrev main_v71 : Ref sig .tc := ⟨.hbm, 114, rfl⟩
abbrev main_v72 : Ref sig .tc := ⟨.hbm, 115, rfl⟩
abbrev main_c_14 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_15 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_c_16 : Ref sig .tc := ⟨.hbm, 126, rfl⟩
abbrev main_v81 : Ref sig .tc := ⟨.hbm, 127, rfl⟩
abbrev main_v82 : Ref sig .tc := ⟨.hbm, 128, rfl⟩
abbrev main_c_17 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_18 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_19 : Ref sig .tc := ⟨.hbm, 151, rfl⟩
abbrev main_v103 : Ref sig .tc := ⟨.hbm, 152, rfl⟩
abbrev main_cst_20 : Ref sig .tc := ⟨.hbm, 153, rfl⟩
abbrev main_v104 : Ref sig .tc := ⟨.hbm, 154, rfl⟩
abbrev main_v105 : Ref sig .tc := ⟨.hbm, 155, rfl⟩
abbrev main_c_21 : Ref sig .tc := ⟨.hbm, 156, rfl⟩
abbrev main_call3_cst : Ref sig .tc := ⟨.hbm, 157, rfl⟩
abbrev main_call3_v0 : Ref sig .tc := ⟨.hbm, 158, rfl⟩
abbrev main_call3_v1 : Ref sig .tc := ⟨.hbm, 159, rfl⟩
abbrev main_call3_cst_0 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_call3_v5 : Ref sig .tc := ⟨.hbm, 164, rfl⟩
abbrev main_call3_v6 : Ref sig .tc := ⟨.hbm, 165, rfl⟩
abbrev main_call3_v7 : Ref sig .tc := ⟨.hbm, 166, rfl⟩
abbrev main_call3_cst_1 : Ref sig .tc := ⟨.hbm, 167, rfl⟩
abbrev main_call3_v8 : Ref sig .tc := ⟨.hbm, 168, rfl⟩
abbrev main_call3_cst_2 : Ref sig .tc := ⟨.hbm, 169, rfl⟩
abbrev main_call3_v9 : Ref sig .tc := ⟨.hbm, 170, rfl⟩
abbrev main_call3_v10 : Ref sig .tc := ⟨.hbm, 171, rfl⟩
abbrev main_call3_v11 : Ref sig .tc := ⟨.hbm, 172, rfl⟩
abbrev main_call3_cst_3 : Ref sig .tc := ⟨.hbm, 173, rfl⟩
abbrev main_call3_v12 : Ref sig .tc := ⟨.hbm, 174, rfl⟩
abbrev main_call3_cst_4 : Ref sig .tc := ⟨.hbm, 175, rfl⟩
abbrev main_call3_call0_v0 : Ref sig .tc := ⟨.hbm, 176, rfl⟩
abbrev main_call3_call0_v1 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_cst_22 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_call4_cst : Ref sig .tc := ⟨.hbm, 203, rfl⟩
abbrev main_call4_v0 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_cst_23 : Ref sig .tc := ⟨.hbm, 219, rfl⟩
abbrev main_v144 : Ref sig .tc := ⟨.hbm, 220, rfl⟩
abbrev main_cst_24 : Ref sig .tc := ⟨.hbm, 221, rfl⟩
abbrev main_v145 : Ref sig .tc := ⟨.hbm, 222, rfl⟩
abbrev main_v146 : Ref sig .tc := ⟨.hbm, 223, rfl⟩
abbrev main_c_25 : Ref sig .tc := ⟨.hbm, 224, rfl⟩
abbrev main_call5_cst : Ref sig .tc := ⟨.hbm, 225, rfl⟩
abbrev main_call5_v0 : Ref sig .tc := ⟨.hbm, 226, rfl⟩
abbrev main_call5_v1 : Ref sig .tc := ⟨.hbm, 227, rfl⟩
abbrev main_call5_cst_0 : Ref sig .tc := ⟨.hbm, 228, rfl⟩
abbrev main_call5_v2 : Ref sig .tc := ⟨.hbm, 229, rfl⟩
abbrev main_call5_v3 : Ref sig .tc := ⟨.hbm, 230, rfl⟩
abbrev main_call5_v4 : Ref sig .tc := ⟨.hbm, 231, rfl⟩
abbrev main_call5_v5 : Ref sig .tc := ⟨.hbm, 232, rfl⟩
abbrev main_call5_v6 : Ref sig .tc := ⟨.hbm, 233, rfl⟩
abbrev main_call5_v7 : Ref sig .tc := ⟨.hbm, 234, rfl⟩
abbrev main_call5_cst_1 : Ref sig .tc := ⟨.hbm, 235, rfl⟩
abbrev main_call5_v8 : Ref sig .tc := ⟨.hbm, 236, rfl⟩
abbrev main_call5_cst_2 : Ref sig .tc := ⟨.hbm, 237, rfl⟩
abbrev main_call5_v9 : Ref sig .tc := ⟨.hbm, 238, rfl⟩
abbrev main_call5_v10 : Ref sig .tc := ⟨.hbm, 239, rfl⟩
abbrev main_call5_v11 : Ref sig .tc := ⟨.hbm, 240, rfl⟩
abbrev main_call5_cst_3 : Ref sig .tc := ⟨.hbm, 241, rfl⟩
abbrev main_call5_v12 : Ref sig .tc := ⟨.hbm, 242, rfl⟩
abbrev main_call5_cst_4 : Ref sig .tc := ⟨.hbm, 243, rfl⟩
abbrev main_call5_call0_v0 : Ref sig .tc := ⟨.hbm, 244, rfl⟩
abbrev main_call5_call0_v1 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_cst_26 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_cst_27 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_cst_28 : Ref sig .tc := ⟨.hbm, 281, rfl⟩
abbrev main_v180 : Ref sig .tc := ⟨.hbm, 282, rfl⟩
abbrev main_c_29 : Ref sig .tc := ⟨.hbm, 283, rfl⟩
abbrev main_v181 : Ref sig .tc := ⟨.hbm, 284, rfl⟩
abbrev main_v182 : Ref sig .tc := ⟨.hbm, 285, rfl⟩
abbrev main_c_30 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_c_31 : Ref sig .tc := ⟨.hbm, 292, rfl⟩
abbrev main_v188 : Ref sig .tc := ⟨.hbm, 293, rfl⟩
abbrev main_v189 : Ref sig .tc := ⟨.hbm, 294, rfl⟩
abbrev main_c_32 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_cst_33 : Ref sig .tc := ⟨.hbm, 302, rfl⟩
abbrev main_v196 : Ref sig .tc := ⟨.hbm, 303, rfl⟩
abbrev main_v197 : Ref sig .tc := ⟨.hbm, 304, rfl⟩
abbrev main_cst_34 : Ref sig .tc := ⟨.hbm, 305, rfl⟩
abbrev main_v198 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_v203 : Ref sig .tc := ⟨.hbm, 311, rfl⟩
abbrev main_v204 : Ref sig .tc := ⟨.hbm, 312, rfl⟩
abbrev main_v205 : Ref sig .tc := ⟨.hbm, 313, rfl⟩
abbrev main_v206 : Ref sig .tc := ⟨.hbm, 314, rfl⟩
abbrev main_v207 : Ref sig .tc := ⟨.hbm, 315, rfl⟩
abbrev main_cst_35 : Ref sig .tc := ⟨.hbm, 316, rfl⟩
abbrev main_call7_v0 : Ref sig .tc := ⟨.hbm, 317, rfl⟩
abbrev main_call7_v1 : Ref sig .tc := ⟨.hbm, 318, rfl⟩
abbrev main_call7_v2 : Ref sig .tc := ⟨.hbm, 319, rfl⟩
abbrev main_call7_v3 : Ref sig .tc := ⟨.hbm, 320, rfl⟩
abbrev main_v208 : Ref sig .tc := ⟨.hbm, 321, rfl⟩
abbrev main_cst_36 : Ref sig .tc := ⟨.hbm, 322, rfl⟩
abbrev main_v209 : Ref sig .tc := ⟨.hbm, 323, rfl⟩
abbrev main_v210 : Ref sig .tc := ⟨.hbm, 324, rfl⟩
abbrev main_cst_37 : Ref sig .tc := ⟨.hbm, 325, rfl⟩
abbrev main_v211 : Ref sig .tc := ⟨.hbm, 326, rfl⟩
abbrev main_v212 : Ref sig .tc := ⟨.hbm, 327, rfl⟩
abbrev main_cst_38 : Ref sig .tc := ⟨.hbm, 328, rfl⟩
abbrev main_call8_v0 : Ref sig .tc := ⟨.hbm, 329, rfl⟩
abbrev main_call8_v1 : Ref sig .tc := ⟨.hbm, 330, rfl⟩
abbrev main_v213 : Ref sig .tc := ⟨.hbm, 331, rfl⟩
abbrev main_c_39 : Ref sig .tc := ⟨.hbm, 332, rfl⟩
abbrev main_v214 : Ref sig .tc := ⟨.hbm, 333, rfl⟩
abbrev main_v215 : Ref sig .tc := ⟨.hbm, 334, rfl⟩
abbrev main_c_40 : Ref sig .tc := ⟨.hbm, 335, rfl⟩
abbrev main_v216 : Ref sig .tc := ⟨.hbm, 336, rfl⟩
abbrev main_v217 : Ref sig .tc := ⟨.hbm, 337, rfl⟩
abbrev main_v218 : Ref sig .tc := ⟨.hbm, 338, rfl⟩
abbrev main_v219 : Ref sig .tc := ⟨.hbm, 339, rfl⟩
abbrev main_v220 : Ref sig .tc := ⟨.hbm, 340, rfl⟩
abbrev main_v221 : Ref sig .tc := ⟨.hbm, 341, rfl⟩
abbrev main_v222 : Ref sig .tc := ⟨.hbm, 342, rfl⟩
abbrev main_cst_41 : Ref sig .tc := ⟨.hbm, 343, rfl⟩
abbrev main_v223 : Ref sig .tc := ⟨.hbm, 344, rfl⟩
abbrev main_v224 : Ref sig .tc := ⟨.hbm, 345, rfl⟩
abbrev main_v225 : Ref sig .tc := ⟨.hbm, 346, rfl⟩
abbrev main_c_42 : Ref sig .tc := ⟨.hbm, 347, rfl⟩
abbrev main_v226 : Ref sig .tc := ⟨.hbm, 348, rfl⟩
abbrev main_v227 : Ref sig .tc := ⟨.hbm, 349, rfl⟩
abbrev main_c_43 : Ref sig .tc := ⟨.hbm, 350, rfl⟩
abbrev main_v228 : Ref sig .tc := ⟨.hbm, 351, rfl⟩
abbrev main_v229 : Ref sig .tc := ⟨.hbm, 352, rfl⟩
abbrev main_v230 : Ref sig .tc := ⟨.hbm, 353, rfl⟩
abbrev main_v231 : Ref sig .tc := ⟨.hbm, 354, rfl⟩
abbrev main_v232 : Ref sig .tc := ⟨.hbm, 355, rfl⟩
abbrev main_cst_44 : Ref sig .tc := ⟨.hbm, 356, rfl⟩
abbrev main_v233 : Ref sig .tc := ⟨.hbm, 357, rfl⟩
abbrev main_v234 : Ref sig .tc := ⟨.hbm, 358, rfl⟩
abbrev main_v235 : Ref sig .tc := ⟨.hbm, 359, rfl⟩
abbrev main_c_45 : Ref sig .tc := ⟨.hbm, 360, rfl⟩
abbrev main_v236 : Ref sig .tc := ⟨.hbm, 361, rfl⟩
abbrev main_v237 : Ref sig .tc := ⟨.hbm, 362, rfl⟩
abbrev main_c_46 : Ref sig .tc := ⟨.hbm, 363, rfl⟩
abbrev main_v238 : Ref sig .tc := ⟨.hbm, 364, rfl⟩
abbrev main_v239 : Ref sig .tc := ⟨.hbm, 365, rfl⟩
abbrev main_v240 : Ref sig .tc := ⟨.hbm, 366, rfl⟩
abbrev main_v241 : Ref sig .tc := ⟨.hbm, 367, rfl⟩
abbrev main_v242 : Ref sig .tc := ⟨.hbm, 368, rfl⟩
abbrev main_v243 : Ref sig .tc := ⟨.hbm, 369, rfl⟩
abbrev main_v244 : Ref sig .tc := ⟨.hbm, 370, rfl⟩
abbrev main_v245 : Ref sig .tc := ⟨.hbm, 371, rfl⟩
abbrev main_cst_47 : Ref sig .tc := ⟨.hbm, 372, rfl⟩
abbrev main_v246 : Ref sig .tc := ⟨.hbm, 373, rfl⟩
abbrev main_v247 : Ref sig .tc := ⟨.hbm, 374, rfl⟩
abbrev main_v248 : Ref sig .tc := ⟨.hbm, 375, rfl⟩
abbrev main_v249 : Ref sig .tc := ⟨.hbm, 376, rfl⟩
abbrev main_v250 : Ref sig .tc := ⟨.hbm, 377, rfl⟩
abbrev main_v251 : Ref sig .tc := ⟨.hbm, 378, rfl⟩
abbrev main_v252 : Ref sig .tc := ⟨.hbm, 379, rfl⟩
abbrev main_v253 : Ref sig .tc := ⟨.hbm, 380, rfl⟩
abbrev main_v254 : Ref sig .tc := ⟨.hbm, 381, rfl⟩
abbrev main_v255 : Ref sig .tc := ⟨.hbm, 382, rfl⟩
abbrev main_v256 : Ref sig .tc := ⟨.hbm, 383, rfl⟩
abbrev main_v257 : Ref sig .tc := ⟨.hbm, 384, rfl⟩
abbrev main_cst_48 : Ref sig .tc := ⟨.hbm, 385, rfl⟩
abbrev main_v258 : Ref sig .tc := ⟨.hbm, 386, rfl⟩
abbrev main_cst_49 : Ref sig .tc := ⟨.hbm, 387, rfl⟩
abbrev main_v259 : Ref sig .tc := ⟨.hbm, 388, rfl⟩
abbrev main_v260 : Ref sig .tc := ⟨.hbm, 389, rfl⟩
abbrev main_c_50 : Ref sig .tc := ⟨.hbm, 390, rfl⟩
abbrev main_call9_cst : Ref sig .tc := ⟨.hbm, 391, rfl⟩
abbrev main_call9_v0 : Ref sig .tc := ⟨.hbm, 392, rfl⟩
abbrev main_call9_v1 : Ref sig .tc := ⟨.hbm, 393, rfl⟩
abbrev main_call9_cst_0 : Ref sig .tc := ⟨.hbm, 394, rfl⟩
abbrev main_call9_v2 : Ref sig .tc := ⟨.hbm, 395, rfl⟩
abbrev main_call9_v3 : Ref sig .tc := ⟨.hbm, 396, rfl⟩
abbrev main_call9_v4 : Ref sig .tc := ⟨.hbm, 397, rfl⟩
abbrev main_call9_v5 : Ref sig .tc := ⟨.hbm, 398, rfl⟩
abbrev main_call9_v6 : Ref sig .tc := ⟨.hbm, 399, rfl⟩
abbrev main_call9_v7 : Ref sig .tc := ⟨.hbm, 400, rfl⟩
abbrev main_call9_cst_1 : Ref sig .tc := ⟨.hbm, 401, rfl⟩
abbrev main_call9_v8 : Ref sig .tc := ⟨.hbm, 402, rfl⟩
abbrev main_call9_cst_2 : Ref sig .tc := ⟨.hbm, 403, rfl⟩
abbrev main_call9_v9 : Ref sig .tc := ⟨.hbm, 404, rfl⟩
abbrev main_call9_v10 : Ref sig .tc := ⟨.hbm, 405, rfl⟩
abbrev main_call9_v11 : Ref sig .tc := ⟨.hbm, 406, rfl⟩
abbrev main_call9_cst_3 : Ref sig .tc := ⟨.hbm, 407, rfl⟩
abbrev main_call9_v12 : Ref sig .tc := ⟨.hbm, 408, rfl⟩
abbrev main_call9_cst_4 : Ref sig .tc := ⟨.hbm, 409, rfl⟩
abbrev main_call9_call0_v0 : Ref sig .tc := ⟨.hbm, 410, rfl⟩
abbrev main_call9_call0_v1 : Ref sig .tc := ⟨.hbm, 411, rfl⟩
abbrev main_v261 : Ref sig .tc := ⟨.hbm, 412, rfl⟩
abbrev main_v262 : Ref sig .tc := ⟨.hbm, 413, rfl⟩
abbrev main_v263 : Ref sig .tc := ⟨.hbm, 414, rfl⟩
abbrev main_v264 : Ref sig .tc := ⟨.hbm, 415, rfl⟩
abbrev main_cst_51 : Ref sig .tc := ⟨.hbm, 416, rfl⟩
abbrev main_v265 : Ref sig .tc := ⟨.hbm, 417, rfl⟩
abbrev main_v266 : Ref sig .tc := ⟨.hbm, 418, rfl⟩
abbrev main_v267 : Ref sig .tc := ⟨.hbm, 419, rfl⟩
abbrev main_v268 : Ref sig .tc := ⟨.hbm, 420, rfl⟩
abbrev main_v269 : Ref sig .tc := ⟨.hbm, 421, rfl⟩
abbrev main_v270 : Ref sig .tc := ⟨.hbm, 422, rfl⟩
abbrev main_v271 : Ref sig .tc := ⟨.hbm, 423, rfl⟩
abbrev main_v272 : Ref sig .tc := ⟨.hbm, 424, rfl⟩
abbrev main_v273 : Ref sig .tc := ⟨.hbm, 425, rfl⟩
abbrev main_v274 : Ref sig .tc := ⟨.hbm, 426, rfl⟩
abbrev main_v275 : Ref sig .tc := ⟨.hbm, 427, rfl⟩
abbrev main_v276 : Ref sig .tc := ⟨.hbm, 428, rfl⟩
abbrev main_v277 : Ref sig .tc := ⟨.hbm, 429, rfl⟩
abbrev main_v278 : Ref sig .tc := ⟨.hbm, 430, rfl⟩
abbrev main_v279 : Ref sig .tc := ⟨.hbm, 431, rfl⟩
abbrev main_v280 : Ref sig .tc := ⟨.hbm, 432, rfl⟩
abbrev main_v281 : Ref sig .tc := ⟨.hbm, 433, rfl⟩
abbrev main_v282 : Ref sig .tc := ⟨.hbm, 434, rfl⟩
abbrev main_v283 : Ref sig .tc := ⟨.hbm, 435, rfl⟩
abbrev main_v284 : Ref sig .tc := ⟨.hbm, 436, rfl⟩
abbrev main_call10_cst : Ref sig .tc := ⟨.hbm, 437, rfl⟩
abbrev main_call10_v0 : Ref sig .tc := ⟨.hbm, 438, rfl⟩
abbrev main_v285 : Ref sig .tc := ⟨.hbm, 439, rfl⟩
abbrev main_v286 : Ref sig .tc := ⟨.hbm, 440, rfl⟩
abbrev main_v287 : Ref sig .tc := ⟨.hbm, 441, rfl⟩
abbrev main_v288 : Ref sig .tc := ⟨.hbm, 442, rfl⟩
abbrev main_v289 : Ref sig .tc := ⟨.hbm, 443, rfl⟩
abbrev main_v290 : Ref sig .tc := ⟨.hbm, 444, rfl⟩
abbrev main_v291 : Ref sig .tc := ⟨.hbm, 445, rfl⟩
abbrev main_v292 : Ref sig .tc := ⟨.hbm, 446, rfl⟩
abbrev main_v293 : Ref sig .tc := ⟨.hbm, 447, rfl⟩
abbrev main_v294 : Ref sig .tc := ⟨.hbm, 448, rfl⟩
abbrev main_v295 : Ref sig .tc := ⟨.hbm, 449, rfl⟩
abbrev main_v296 : Ref sig .tc := ⟨.hbm, 450, rfl⟩
abbrev main_v297 : Ref sig .tc := ⟨.hbm, 451, rfl⟩
abbrev main_v298 : Ref sig .tc := ⟨.hbm, 452, rfl⟩
abbrev main_cst_52 : Ref sig .tc := ⟨.hbm, 453, rfl⟩
abbrev main_v299 : Ref sig .tc := ⟨.hbm, 454, rfl⟩
abbrev main_cst_53 : Ref sig .tc := ⟨.hbm, 455, rfl⟩
abbrev main_v300 : Ref sig .tc := ⟨.hbm, 456, rfl⟩
abbrev main_v301 : Ref sig .tc := ⟨.hbm, 457, rfl⟩
abbrev main_c_54 : Ref sig .tc := ⟨.hbm, 458, rfl⟩
abbrev main_call11_cst : Ref sig .tc := ⟨.hbm, 459, rfl⟩
abbrev main_call11_v0 : Ref sig .tc := ⟨.hbm, 460, rfl⟩
abbrev main_call11_v1 : Ref sig .tc := ⟨.hbm, 461, rfl⟩
abbrev main_call11_cst_0 : Ref sig .tc := ⟨.hbm, 462, rfl⟩
abbrev main_call11_v2 : Ref sig .tc := ⟨.hbm, 463, rfl⟩
abbrev main_call11_v3 : Ref sig .tc := ⟨.hbm, 464, rfl⟩
abbrev main_call11_v4 : Ref sig .tc := ⟨.hbm, 465, rfl⟩
abbrev main_call11_v5 : Ref sig .tc := ⟨.hbm, 466, rfl⟩
abbrev main_call11_v6 : Ref sig .tc := ⟨.hbm, 467, rfl⟩
abbrev main_call11_v7 : Ref sig .tc := ⟨.hbm, 468, rfl⟩
abbrev main_call11_cst_1 : Ref sig .tc := ⟨.hbm, 469, rfl⟩
abbrev main_call11_v8 : Ref sig .tc := ⟨.hbm, 470, rfl⟩
abbrev main_call11_cst_2 : Ref sig .tc := ⟨.hbm, 471, rfl⟩
abbrev main_call11_v9 : Ref sig .tc := ⟨.hbm, 472, rfl⟩
abbrev main_call11_v10 : Ref sig .tc := ⟨.hbm, 473, rfl⟩
abbrev main_call11_v11 : Ref sig .tc := ⟨.hbm, 474, rfl⟩
abbrev main_call11_cst_3 : Ref sig .tc := ⟨.hbm, 475, rfl⟩
abbrev main_call11_v12 : Ref sig .tc := ⟨.hbm, 476, rfl⟩
abbrev main_call11_cst_4 : Ref sig .tc := ⟨.hbm, 477, rfl⟩
abbrev main_call11_call0_v0 : Ref sig .tc := ⟨.hbm, 478, rfl⟩
abbrev main_call11_call0_v1 : Ref sig .tc := ⟨.hbm, 479, rfl⟩
abbrev main_v302 : Ref sig .tc := ⟨.hbm, 480, rfl⟩
abbrev main_v303 : Ref sig .tc := ⟨.hbm, 481, rfl⟩
abbrev main_v304 : Ref sig .tc := ⟨.hbm, 482, rfl⟩
abbrev main_v305 : Ref sig .tc := ⟨.hbm, 483, rfl⟩
abbrev main_cst_55 : Ref sig .tc := ⟨.hbm, 484, rfl⟩
abbrev main_v306 : Ref sig .tc := ⟨.hbm, 485, rfl⟩
abbrev main_v307 : Ref sig .tc := ⟨.hbm, 486, rfl⟩
abbrev main_v308 : Ref sig .tc := ⟨.hbm, 487, rfl⟩
abbrev main_v309 : Ref sig .tc := ⟨.hbm, 488, rfl⟩
abbrev main_v310 : Ref sig .tc := ⟨.hbm, 489, rfl⟩
abbrev main_v311 : Ref sig .tc := ⟨.hbm, 490, rfl⟩
abbrev main_v312 : Ref sig .tc := ⟨.hbm, 491, rfl⟩
abbrev main_v313 : Ref sig .tc := ⟨.hbm, 492, rfl⟩
abbrev main_v314 : Ref sig .tc := ⟨.hbm, 493, rfl⟩
abbrev main_v315 : Ref sig .tc := ⟨.hbm, 494, rfl⟩
abbrev main_v316 : Ref sig .tc := ⟨.hbm, 495, rfl⟩
abbrev main_v317 : Ref sig .tc := ⟨.hbm, 496, rfl⟩
abbrev main_v318 : Ref sig .tc := ⟨.hbm, 497, rfl⟩
abbrev main_v319 : Ref sig .tc := ⟨.hbm, 498, rfl⟩
abbrev main_v320 : Ref sig .tc := ⟨.hbm, 499, rfl⟩
abbrev main_v321 : Ref sig .tc := ⟨.hbm, 500, rfl⟩
abbrev main_v322 : Ref sig .tc := ⟨.hbm, 501, rfl⟩
abbrev main_v323 : Ref sig .tc := ⟨.hbm, 502, rfl⟩
abbrev main_v324 : Ref sig .tc := ⟨.hbm, 503, rfl⟩
abbrev main_v325 : Ref sig .tc := ⟨.hbm, 504, rfl⟩
abbrev main_v326 : Ref sig .tc := ⟨.hbm, 505, rfl⟩
abbrev main_v327 : Ref sig .tc := ⟨.hbm, 506, rfl⟩
abbrev main_v328 : Ref sig .tc := ⟨.hbm, 507, rfl⟩
abbrev main_v329 : Ref sig .tc := ⟨.hbm, 508, rfl⟩
abbrev main_v330 : Ref sig .tc := ⟨.hbm, 509, rfl⟩
abbrev main_cst_56 : Ref sig .tc := ⟨.hbm, 510, rfl⟩
abbrev main_v331 : Ref sig .tc := ⟨.hbm, 511, rfl⟩
abbrev main_v332 : Ref sig .tc := ⟨.hbm, 512, rfl⟩
abbrev main_v333 : Ref sig .tc := ⟨.hbm, 513, rfl⟩
abbrev main_v334 : Ref sig .tc := ⟨.hbm, 514, rfl⟩
abbrev main_cst_57 : Ref sig .tc := ⟨.hbm, 515, rfl⟩
abbrev main_v335 : Ref sig .tc := ⟨.hbm, 516, rfl⟩
abbrev main_c_58 : Ref sig .tc := ⟨.hbm, 517, rfl⟩
abbrev main_v336 : Ref sig .tc := ⟨.hbm, 518, rfl⟩
abbrev main_v337 : Ref sig .tc := ⟨.hbm, 519, rfl⟩
abbrev main_c_59 : Ref sig .tc := ⟨.hbm, 520, rfl⟩
abbrev main_v338 : Ref sig .tc := ⟨.hbm, 521, rfl⟩
abbrev main_v339 : Ref sig .tc := ⟨.hbm, 522, rfl⟩
abbrev main_v340 : Ref sig .tc := ⟨.hbm, 523, rfl⟩
abbrev main_v341 : Ref sig .tc := ⟨.hbm, 524, rfl⟩
abbrev main_v342 : Ref sig .tc := ⟨.hbm, 525, rfl⟩
abbrev main_c_60 : Ref sig .tc := ⟨.hbm, 526, rfl⟩
abbrev main_v343 : Ref sig .tc := ⟨.hbm, 527, rfl⟩
abbrev main_v344 : Ref sig .tc := ⟨.hbm, 528, rfl⟩
abbrev main_c_61 : Ref sig .tc := ⟨.hbm, 529, rfl⟩
abbrev main_v345 : Ref sig .tc := ⟨.hbm, 530, rfl⟩
abbrev main_v346 : Ref sig .tc := ⟨.hbm, 531, rfl⟩
abbrev main_v347 : Ref sig .tc := ⟨.hbm, 532, rfl⟩
abbrev main_v348 : Ref sig .tc := ⟨.hbm, 533, rfl⟩
abbrev main_v349 : Ref sig .tc := ⟨.hbm, 534, rfl⟩
abbrev main_v350 : Ref sig .tc := ⟨.hbm, 535, rfl⟩
abbrev main_cst_62 : Ref sig .tc := ⟨.hbm, 536, rfl⟩
abbrev main_v351 : Ref sig .tc := ⟨.hbm, 537, rfl⟩
abbrev main_v352 : Ref sig .tc := ⟨.hbm, 538, rfl⟩
abbrev main_cst_63 : Ref sig .tc := ⟨.hbm, 539, rfl⟩
abbrev main_v353 : Ref sig .tc := ⟨.hbm, 540, rfl⟩
abbrev main_v354 : Ref sig .tc := ⟨.hbm, 541, rfl⟩
abbrev main_v355 : Ref sig .tc := ⟨.hbm, 542, rfl⟩
abbrev main_v356 : Ref sig .tc := ⟨.hbm, 543, rfl⟩
abbrev main_v357 : Ref sig .tc := ⟨.hbm, 544, rfl⟩
abbrev main_v358 : Ref sig .tc := ⟨.hbm, 545, rfl⟩
abbrev main_v359 : Ref sig .tc := ⟨.hbm, 546, rfl⟩
abbrev main_v360 : Ref sig .tc := ⟨.hbm, 547, rfl⟩
abbrev main_v361 : Ref sig .tc := ⟨.hbm, 548, rfl⟩
abbrev main_v362 : Ref sig .tc := ⟨.hbm, 549, rfl⟩
abbrev main_cst_64 : Ref sig .tc := ⟨.hbm, 550, rfl⟩
abbrev main_call13_v0 : Ref sig .tc := ⟨.hbm, 551, rfl⟩
abbrev main_call13_v1 : Ref sig .tc := ⟨.hbm, 552, rfl⟩
abbrev main_call13_v2 : Ref sig .tc := ⟨.hbm, 553, rfl⟩
abbrev main_call13_v3 : Ref sig .tc := ⟨.hbm, 554, rfl⟩
abbrev main_v363 : Ref sig .tc := ⟨.hbm, 555, rfl⟩
abbrev main_cst_65 : Ref sig .tc := ⟨.hbm, 556, rfl⟩
abbrev main_v364 : Ref sig .tc := ⟨.hbm, 557, rfl⟩
abbrev main_v365 : Ref sig .tc := ⟨.hbm, 558, rfl⟩
abbrev main_cst_66 : Ref sig .tc := ⟨.hbm, 559, rfl⟩
abbrev main_v366 : Ref sig .tc := ⟨.hbm, 560, rfl⟩
abbrev main_v367 : Ref sig .tc := ⟨.hbm, 561, rfl⟩
abbrev main_cst_67 : Ref sig .tc := ⟨.hbm, 562, rfl⟩
abbrev main_call14_v0 : Ref sig .tc := ⟨.hbm, 563, rfl⟩
abbrev main_call14_v1 : Ref sig .tc := ⟨.hbm, 564, rfl⟩
abbrev main_v368 : Ref sig .tc := ⟨.hbm, 565, rfl⟩
abbrev main_c_68 : Ref sig .tc := ⟨.hbm, 566, rfl⟩
abbrev main_v369 : Ref sig .tc := ⟨.hbm, 567, rfl⟩
abbrev main_v370 : Ref sig .tc := ⟨.hbm, 568, rfl⟩
abbrev main_c_69 : Ref sig .tc := ⟨.hbm, 569, rfl⟩
abbrev main_v371 : Ref sig .tc := ⟨.hbm, 570, rfl⟩
abbrev main_v372 : Ref sig .tc := ⟨.hbm, 571, rfl⟩
abbrev main_v373 : Ref sig .tc := ⟨.hbm, 572, rfl⟩
abbrev main_v374 : Ref sig .tc := ⟨.hbm, 573, rfl⟩
abbrev main_v375 : Ref sig .tc := ⟨.hbm, 574, rfl⟩
abbrev main_v376 : Ref sig .tc := ⟨.hbm, 575, rfl⟩
abbrev main_v377 : Ref sig .tc := ⟨.hbm, 576, rfl⟩
abbrev main_cst_70 : Ref sig .tc := ⟨.hbm, 577, rfl⟩
abbrev main_v378 : Ref sig .tc := ⟨.hbm, 578, rfl⟩
abbrev main_v379 : Ref sig .tc := ⟨.hbm, 579, rfl⟩
abbrev main_v380 : Ref sig .tc := ⟨.hbm, 580, rfl⟩
abbrev main_c_71 : Ref sig .tc := ⟨.hbm, 581, rfl⟩
abbrev main_v381 : Ref sig .tc := ⟨.hbm, 582, rfl⟩
abbrev main_v382 : Ref sig .tc := ⟨.hbm, 583, rfl⟩
abbrev main_c_72 : Ref sig .tc := ⟨.hbm, 584, rfl⟩
abbrev main_v383 : Ref sig .tc := ⟨.hbm, 585, rfl⟩
abbrev main_v384 : Ref sig .tc := ⟨.hbm, 586, rfl⟩
abbrev main_v385 : Ref sig .tc := ⟨.hbm, 587, rfl⟩
abbrev main_v386 : Ref sig .tc := ⟨.hbm, 588, rfl⟩
abbrev main_v387 : Ref sig .tc := ⟨.hbm, 589, rfl⟩
abbrev main_cst_73 : Ref sig .tc := ⟨.hbm, 590, rfl⟩
abbrev main_v388 : Ref sig .tc := ⟨.hbm, 591, rfl⟩
abbrev main_v389 : Ref sig .tc := ⟨.hbm, 592, rfl⟩
abbrev main_v390 : Ref sig .tc := ⟨.hbm, 593, rfl⟩
abbrev main_c_74 : Ref sig .tc := ⟨.hbm, 594, rfl⟩
abbrev main_v391 : Ref sig .tc := ⟨.hbm, 595, rfl⟩
abbrev main_v392 : Ref sig .tc := ⟨.hbm, 596, rfl⟩
abbrev main_c_75 : Ref sig .tc := ⟨.hbm, 597, rfl⟩
abbrev main_v393 : Ref sig .tc := ⟨.hbm, 598, rfl⟩
abbrev main_v394 : Ref sig .tc := ⟨.hbm, 599, rfl⟩
abbrev main_v395 : Ref sig .tc := ⟨.hbm, 600, rfl⟩
abbrev main_v396 : Ref sig .tc := ⟨.hbm, 601, rfl⟩
abbrev main_v397 : Ref sig .tc := ⟨.hbm, 602, rfl⟩
abbrev main_v398 : Ref sig .tc := ⟨.hbm, 603, rfl⟩
abbrev main_v399 : Ref sig .tc := ⟨.hbm, 604, rfl⟩
abbrev main_v400 : Ref sig .tc := ⟨.hbm, 605, rfl⟩
abbrev main_cst_76 : Ref sig .tc := ⟨.hbm, 606, rfl⟩
abbrev main_v401 : Ref sig .tc := ⟨.hbm, 607, rfl⟩
abbrev main_v402 : Ref sig .tc := ⟨.hbm, 608, rfl⟩
abbrev main_v403 : Ref sig .tc := ⟨.hbm, 609, rfl⟩
abbrev main_v404 : Ref sig .tc := ⟨.hbm, 610, rfl⟩
abbrev main_v405 : Ref sig .tc := ⟨.hbm, 611, rfl⟩
abbrev main_v406 : Ref sig .tc := ⟨.hbm, 612, rfl⟩
abbrev main_v407 : Ref sig .tc := ⟨.hbm, 613, rfl⟩
abbrev main_v408 : Ref sig .tc := ⟨.hbm, 614, rfl⟩
abbrev main_v409 : Ref sig .tc := ⟨.hbm, 615, rfl⟩
abbrev main_v410 : Ref sig .tc := ⟨.hbm, 616, rfl⟩
abbrev main_v411 : Ref sig .tc := ⟨.hbm, 617, rfl⟩
abbrev main_v412 : Ref sig .tc := ⟨.hbm, 618, rfl⟩
abbrev main_cst_77 : Ref sig .tc := ⟨.hbm, 619, rfl⟩
abbrev main_v413 : Ref sig .tc := ⟨.hbm, 620, rfl⟩
abbrev main_cst_78 : Ref sig .tc := ⟨.hbm, 621, rfl⟩
abbrev main_v414 : Ref sig .tc := ⟨.hbm, 622, rfl⟩
abbrev main_v415 : Ref sig .tc := ⟨.hbm, 623, rfl⟩
abbrev main_c_79 : Ref sig .tc := ⟨.hbm, 624, rfl⟩
abbrev main_call15_cst : Ref sig .tc := ⟨.hbm, 625, rfl⟩
abbrev main_call15_v0 : Ref sig .tc := ⟨.hbm, 626, rfl⟩
abbrev main_call15_v1 : Ref sig .tc := ⟨.hbm, 627, rfl⟩
abbrev main_call15_cst_0 : Ref sig .tc := ⟨.hbm, 628, rfl⟩
abbrev main_call15_v2 : Ref sig .tc := ⟨.hbm, 629, rfl⟩
abbrev main_call15_v3 : Ref sig .tc := ⟨.hbm, 630, rfl⟩
abbrev main_call15_v4 : Ref sig .tc := ⟨.hbm, 631, rfl⟩
abbrev main_call15_v5 : Ref sig .tc := ⟨.hbm, 632, rfl⟩
abbrev main_call15_v6 : Ref sig .tc := ⟨.hbm, 633, rfl⟩
abbrev main_call15_v7 : Ref sig .tc := ⟨.hbm, 634, rfl⟩
abbrev main_call15_cst_1 : Ref sig .tc := ⟨.hbm, 635, rfl⟩
abbrev main_call15_v8 : Ref sig .tc := ⟨.hbm, 636, rfl⟩
abbrev main_call15_cst_2 : Ref sig .tc := ⟨.hbm, 637, rfl⟩
abbrev main_call15_v9 : Ref sig .tc := ⟨.hbm, 638, rfl⟩
abbrev main_call15_v10 : Ref sig .tc := ⟨.hbm, 639, rfl⟩
abbrev main_call15_v11 : Ref sig .tc := ⟨.hbm, 640, rfl⟩
abbrev main_call15_cst_3 : Ref sig .tc := ⟨.hbm, 641, rfl⟩
abbrev main_call15_v12 : Ref sig .tc := ⟨.hbm, 642, rfl⟩
abbrev main_call15_cst_4 : Ref sig .tc := ⟨.hbm, 643, rfl⟩
abbrev main_call15_call0_v0 : Ref sig .tc := ⟨.hbm, 644, rfl⟩
abbrev main_call15_call0_v1 : Ref sig .tc := ⟨.hbm, 645, rfl⟩
abbrev main_v416 : Ref sig .tc := ⟨.hbm, 646, rfl⟩
abbrev main_v417 : Ref sig .tc := ⟨.hbm, 647, rfl⟩
abbrev main_v418 : Ref sig .tc := ⟨.hbm, 648, rfl⟩
abbrev main_v419 : Ref sig .tc := ⟨.hbm, 649, rfl⟩
abbrev main_cst_80 : Ref sig .tc := ⟨.hbm, 650, rfl⟩
abbrev main_v420 : Ref sig .tc := ⟨.hbm, 651, rfl⟩
abbrev main_v421 : Ref sig .tc := ⟨.hbm, 652, rfl⟩
abbrev main_v422 : Ref sig .tc := ⟨.hbm, 653, rfl⟩
abbrev main_v423 : Ref sig .tc := ⟨.hbm, 654, rfl⟩
abbrev main_v424 : Ref sig .tc := ⟨.hbm, 655, rfl⟩
abbrev main_v425 : Ref sig .tc := ⟨.hbm, 656, rfl⟩
abbrev main_v426 : Ref sig .tc := ⟨.hbm, 657, rfl⟩
abbrev main_v427 : Ref sig .tc := ⟨.hbm, 658, rfl⟩
abbrev main_v428 : Ref sig .tc := ⟨.hbm, 659, rfl⟩
abbrev main_v429 : Ref sig .tc := ⟨.hbm, 660, rfl⟩
abbrev main_v430 : Ref sig .tc := ⟨.hbm, 661, rfl⟩
abbrev main_v431 : Ref sig .tc := ⟨.hbm, 662, rfl⟩
abbrev main_v432 : Ref sig .tc := ⟨.hbm, 663, rfl⟩
abbrev main_v433 : Ref sig .tc := ⟨.hbm, 664, rfl⟩
abbrev main_v434 : Ref sig .tc := ⟨.hbm, 665, rfl⟩
abbrev main_v435 : Ref sig .tc := ⟨.hbm, 666, rfl⟩
abbrev main_v436 : Ref sig .tc := ⟨.hbm, 667, rfl⟩
abbrev main_v437 : Ref sig .tc := ⟨.hbm, 668, rfl⟩
abbrev main_v438 : Ref sig .tc := ⟨.hbm, 669, rfl⟩
abbrev main_v439 : Ref sig .tc := ⟨.hbm, 670, rfl⟩
abbrev main_call16_cst : Ref sig .tc := ⟨.hbm, 671, rfl⟩
abbrev main_call16_v0 : Ref sig .tc := ⟨.hbm, 672, rfl⟩
abbrev main_v440 : Ref sig .tc := ⟨.hbm, 673, rfl⟩
abbrev main_v441 : Ref sig .tc := ⟨.hbm, 674, rfl⟩
abbrev main_v442 : Ref sig .tc := ⟨.hbm, 675, rfl⟩
abbrev main_v443 : Ref sig .tc := ⟨.hbm, 676, rfl⟩
abbrev main_v444 : Ref sig .tc := ⟨.hbm, 677, rfl⟩
abbrev main_v445 : Ref sig .tc := ⟨.hbm, 678, rfl⟩
abbrev main_v446 : Ref sig .tc := ⟨.hbm, 679, rfl⟩
abbrev main_v447 : Ref sig .tc := ⟨.hbm, 680, rfl⟩
abbrev main_v448 : Ref sig .tc := ⟨.hbm, 681, rfl⟩
abbrev main_v449 : Ref sig .tc := ⟨.hbm, 682, rfl⟩
abbrev main_v450 : Ref sig .tc := ⟨.hbm, 683, rfl⟩
abbrev main_v451 : Ref sig .tc := ⟨.hbm, 684, rfl⟩
abbrev main_v452 : Ref sig .tc := ⟨.hbm, 685, rfl⟩
abbrev main_v453 : Ref sig .tc := ⟨.hbm, 686, rfl⟩
abbrev main_cst_81 : Ref sig .tc := ⟨.hbm, 687, rfl⟩
abbrev main_v454 : Ref sig .tc := ⟨.hbm, 688, rfl⟩
abbrev main_cst_82 : Ref sig .tc := ⟨.hbm, 689, rfl⟩
abbrev main_v455 : Ref sig .tc := ⟨.hbm, 690, rfl⟩
abbrev main_v456 : Ref sig .tc := ⟨.hbm, 691, rfl⟩
abbrev main_c_83 : Ref sig .tc := ⟨.hbm, 692, rfl⟩
abbrev main_call17_cst : Ref sig .tc := ⟨.hbm, 693, rfl⟩
abbrev main_call17_v0 : Ref sig .tc := ⟨.hbm, 694, rfl⟩
abbrev main_call17_v1 : Ref sig .tc := ⟨.hbm, 695, rfl⟩
abbrev main_call17_cst_0 : Ref sig .tc := ⟨.hbm, 696, rfl⟩
abbrev main_call17_v2 : Ref sig .tc := ⟨.hbm, 697, rfl⟩
abbrev main_call17_v3 : Ref sig .tc := ⟨.hbm, 698, rfl⟩
abbrev main_call17_v4 : Ref sig .tc := ⟨.hbm, 699, rfl⟩
abbrev main_call17_v5 : Ref sig .tc := ⟨.hbm, 700, rfl⟩
abbrev main_call17_v6 : Ref sig .tc := ⟨.hbm, 701, rfl⟩
abbrev main_call17_v7 : Ref sig .tc := ⟨.hbm, 702, rfl⟩
abbrev main_call17_cst_1 : Ref sig .tc := ⟨.hbm, 703, rfl⟩
abbrev main_call17_v8 : Ref sig .tc := ⟨.hbm, 704, rfl⟩
abbrev main_call17_cst_2 : Ref sig .tc := ⟨.hbm, 705, rfl⟩
abbrev main_call17_v9 : Ref sig .tc := ⟨.hbm, 706, rfl⟩
abbrev main_call17_v10 : Ref sig .tc := ⟨.hbm, 707, rfl⟩
abbrev main_call17_v11 : Ref sig .tc := ⟨.hbm, 708, rfl⟩
abbrev main_call17_cst_3 : Ref sig .tc := ⟨.hbm, 709, rfl⟩
abbrev main_call17_v12 : Ref sig .tc := ⟨.hbm, 710, rfl⟩
abbrev main_call17_cst_4 : Ref sig .tc := ⟨.hbm, 711, rfl⟩
abbrev main_call17_call0_v0 : Ref sig .tc := ⟨.hbm, 712, rfl⟩
abbrev main_call17_call0_v1 : Ref sig .tc := ⟨.hbm, 713, rfl⟩
abbrev main_v457 : Ref sig .tc := ⟨.hbm, 714, rfl⟩
abbrev main_v458 : Ref sig .tc := ⟨.hbm, 715, rfl⟩
abbrev main_v459 : Ref sig .tc := ⟨.hbm, 716, rfl⟩
abbrev main_v460 : Ref sig .tc := ⟨.hbm, 717, rfl⟩
abbrev main_cst_84 : Ref sig .tc := ⟨.hbm, 718, rfl⟩
abbrev main_v461 : Ref sig .tc := ⟨.hbm, 719, rfl⟩
abbrev main_v462 : Ref sig .tc := ⟨.hbm, 720, rfl⟩
abbrev main_v463 : Ref sig .tc := ⟨.hbm, 721, rfl⟩
abbrev main_v464 : Ref sig .tc := ⟨.hbm, 722, rfl⟩
abbrev main_v465 : Ref sig .tc := ⟨.hbm, 723, rfl⟩
abbrev main_v466 : Ref sig .tc := ⟨.hbm, 724, rfl⟩
abbrev main_v467 : Ref sig .tc := ⟨.hbm, 725, rfl⟩
abbrev main_v468 : Ref sig .tc := ⟨.hbm, 726, rfl⟩
abbrev main_v469 : Ref sig .tc := ⟨.hbm, 727, rfl⟩
abbrev main_v470 : Ref sig .tc := ⟨.hbm, 728, rfl⟩
abbrev main_v471 : Ref sig .tc := ⟨.hbm, 729, rfl⟩
abbrev main_v472 : Ref sig .tc := ⟨.hbm, 730, rfl⟩
abbrev main_cst_85 : Ref sig .tc := ⟨.hbm, 731, rfl⟩
abbrev main_v473 : Ref sig .tc := ⟨.hbm, 732, rfl⟩
abbrev main_cst_86 : Ref sig .tc := ⟨.hbm, 733, rfl⟩
abbrev main_v474 : Ref sig .tc := ⟨.hbm, 734, rfl⟩
abbrev main_v475 : Ref sig .tc := ⟨.hbm, 735, rfl⟩
abbrev main_v476 : Ref sig .tc := ⟨.hbm, 736, rfl⟩
abbrev main_v477 : Ref sig .tc := ⟨.hbm, 737, rfl⟩
abbrev main_v478 : Ref sig .tc := ⟨.hbm, 738, rfl⟩
abbrev main_call18_cst : Ref sig .tc := ⟨.hbm, 739, rfl⟩
abbrev main_call18_v0 : Ref sig .tc := ⟨.hbm, 740, rfl⟩
abbrev main_v479 : Ref sig .tc := ⟨.hbm, 741, rfl⟩
abbrev main_v480 : Ref sig .tc := ⟨.hbm, 742, rfl⟩
abbrev main_v481 : Ref sig .tc := ⟨.hbm, 743, rfl⟩
abbrev main_call19_cst : Ref sig .tc := ⟨.hbm, 744, rfl⟩
abbrev main_call19_v0 : Ref sig .tc := ⟨.hbm, 745, rfl⟩
abbrev main_v482 : Ref sig .tc := ⟨.hbm, 746, rfl⟩
abbrev main_v483 : Ref sig .tc := ⟨.hbm, 747, rfl⟩
abbrev main_v484 : Ref sig .tc := ⟨.hbm, 748, rfl⟩

abbrev nD : Nat := 1
abbrev τ : Topo := Topo.v7x

variable {F : FTy → Type} [FloatOps F]
-- ==== Proof.Mean.lean ====
/- The mean over the nodes of a batch normalization's result is its shift, whatever is normalized: of an array that is
   not real the deviations are infinite, and so is their variance's root, by which they are divided. -/
module

public import proofs.«01_k».proof.Proof.Gen.ReferenceIdeal.Run
public import Idealize.ShloMosaic.Lib.IdealHost
public import Idealize.ShloMosaic.Lib.Pointwise
public import Idealize.ShloMosaic.PureOps.Ideal.Laws

@[expose] public section

set_option maxRecDepth 16384

noncomputable section

namespace Cert.Proof

open Idealize.ShloMosaic Idealize.SL.Sem Cert.ReferenceIdeal Cert.ReferenceIdeal.Gen

/-! ### Constants -/

theorem word_count : (Ideal.ofBits .f32 0x47435000#32 : EReal) = ((50000 : ℝ) : EReal) := by
  simp [Ideal.ofBits, Ideal.ieee]
  norm_num [zpow_neg]
  rw [← EReal.coe_mul]
  norm_num

theorem word_inf : (Ideal.ofBits .f32 0x7F800000#32 : EReal) = ⊤ := by
  simp [Ideal.ofBits, Ideal.ieee]

theorem word_eps : ∃ r : ℝ, 0 < r ∧ (Ideal.ofBits .f32 0x3727C5AC#32 : EReal) = (r : EReal) := by
  refine ⟨10995116 / 2 ^ 40, by norm_num, ?_⟩
  simp [Ideal.ofBits, Ideal.ieee]
  norm_num [zpow_neg]
  rw [← EReal.coe_mul]
  norm_num

/-- The count that the variance divides by, 50000 − 0. -/
theorem word_left : (Ideal.ofBits .f32 0x47435000#32 : EReal) - (FloatOps.sitofp (F := Ideal) .f32 (0#32 : BitVec 32) : EReal)
    = ((50000 : ℝ) : EReal) := by
  show (Ideal.ofBits .f32 0x47435000#32 : EReal) - (((0#32 : BitVec 32).toInt : ℝ) : EReal) = _
  rw [word_count]
  simp

/-- The bit of `|v| < ∞` is set only at a real `v`. -/
theorem real_of_abs_lt {v : EReal} (h : Ideal.cmp .olt (max v (-v)) (Ideal.ofBits .f32 0x7F800000#32) = 1#1) :
    ∃ r : ℝ, v = (r : EReal) := by
  rw [word_inf] at h
  induction v with
  | bot => simp [Ideal.cmp] at h
  | top => simp [Ideal.cmp] at h
  | coe r => exact ⟨r, rfl⟩

/-! ### Sums -/

theorem coe_sum {ι : Type} (S : Finset ι) (g : ι → ℝ) : ((∑ i ∈ S, g i : ℝ) : EReal) = ∑ i ∈ S, (g i : EReal) :=
  map_sum (⟨⟨Real.toEReal, EReal.coe_zero⟩, EReal.coe_add⟩ : ℝ →+ EReal) g S

/-- A sum that is real has real terms. -/
theorem term_real {N : ℕ} (r : Fin N → EReal) (a : ℝ) (h : ∑ i, r i = (a : EReal)) (i : Fin N) : ∃ q : ℝ, r i = (q : EReal) := by
  rw [← Finset.add_sum_erase _ _ (Finset.mem_univ i)] at h
  generalize ∑ j ∈ Finset.univ.erase i, r j = t at h
  generalize r i = u at h
  induction u with
  | bot => simp at h
  | coe q => exact ⟨q, rfl⟩
  | top => induction t with
    | bot => simp at h
    | coe q => simp at h
    | top => simp at h

/-- A sum of `N` equal terms, divided by `N`. -/
theorem mean_const (N : ℕ) (hN : 0 < N) (b : EReal) : Ideal.div (∑ _i : Fin N, b) ((N : ℝ) : EReal) = b := by
  have hN' : (N : ℝ) ≠ 0 := by positivity
  rw [Finset.sum_const, Finset.card_univ, Fintype.card_fin, EReal.nsmul_eq_mul, Ideal.div_coe hN', mul_comm ((N : ℕ) : EReal) b,
    mul_assoc, show ((N : ℕ) : EReal) = ((N : ℝ) : EReal) by norm_cast, ← EReal.coe_mul, mul_one_div_cancel hN', EReal.coe_one,
    mul_one]

/-- The normalized values, whatever the array holds: real numbers of sum zero. -/
theorem normalized (N : ℕ) (hN : 0 < N) (r : Fin N → EReal) (e : ℝ) (he : 0 < e) :
    ∃ q : Fin N → ℝ, ∑ i, q i = 0 ∧ ∀ i, Ideal.div (r i - Ideal.div (∑ i, r i) ((N : ℝ) : EReal))
      (Ideal.sqrt (Ideal.div (∑ i, (r i - Ideal.div (∑ i, r i) ((N : ℝ) : EReal)) * (r i - Ideal.div (∑ i, r i) ((N : ℝ) : EReal)))
        ((N : ℝ) : EReal) + (e : EReal))) = (q i : EReal) := by
  have hN' : (N : ℝ) ≠ 0 := by positivity
  have hp : (0 : ℝ) < 1 / N := by positivity
  by_cases hs : ∃ a : ℝ, ∑ i, r i = (a : EReal)
  · obtain ⟨a, ha⟩ := hs
    choose p hpr using term_real r a ha
    have hsum : ∑ i, r i = ((∑ i, p i : ℝ) : EReal) := by
      rw [coe_sum]
      exact Finset.sum_congr rfl fun i _ => hpr i
    have hd : ∀ i, r i - Ideal.div (∑ i, r i) ((N : ℝ) : EReal) = ((p i - (∑ i, p i) * (1 / N) : ℝ) : EReal) := fun i => by
      rw [hsum, Ideal.div_coe hN', hpr i]
      norm_cast
    simp only [hd]
    set d : Fin N → ℝ := fun i => p i - (∑ i, p i) * (1 / N) with hdd
    have hv : Ideal.sqrt (Ideal.div (∑ i, ((d i : ℝ) : EReal) * ((d i : ℝ) : EReal)) ((N : ℝ) : EReal) + (e : EReal))
        = ((Real.sqrt ((∑ i, d i * d i) * (1 / N) + e) : ℝ) : EReal) := by
      have : ∑ i, ((d i : ℝ) : EReal) * ((d i : ℝ) : EReal) = ((∑ i, d i * d i : ℝ) : EReal) := by
        rw [coe_sum]
        exact Finset.sum_congr rfl fun i _ => (EReal.coe_mul _ _).symm
      rw [this, Ideal.div_coe hN', ← EReal.coe_mul, ← EReal.coe_add, Ideal.sqrt_coe, if_neg]
      have : 0 ≤ ∑ i, d i * d i := Finset.sum_nonneg fun i _ => mul_self_nonneg _
      have := mul_nonneg this hp.le
      linarith
    have h0 : 0 < Real.sqrt ((∑ i, d i * d i) * (1 / N) + e) := by
      refine Real.sqrt_pos.mpr ?_
      have : 0 ≤ ∑ i, d i * d i := Finset.sum_nonneg fun i _ => mul_self_nonneg _
      have := mul_nonneg this hp.le
      linarith
    refine ⟨fun i => d i * (1 / Real.sqrt ((∑ i, d i * d i) * (1 / N) + e)), ?_, fun i => ?_⟩
    · rw [← Finset.sum_mul, hdd, Finset.sum_sub_distrib, Finset.sum_const, Finset.card_univ, Fintype.card_fin, nsmul_eq_mul]
      rw [mul_comm (N : ℝ), mul_assoc (∑ i, p i), one_div_mul_cancel hN', mul_one, sub_self, zero_mul]
    · show Ideal.div ((d i : ℝ) : EReal) _ = _
      rw [hv, Ideal.div_coe h0.ne', ← EReal.coe_mul]
  · have hd : ∀ i, (r i - Ideal.div (∑ i, r i) ((N : ℝ) : EReal)) * (r i - Ideal.div (∑ i, r i) ((N : ℝ) : EReal)) = ⊤ := fun i => by
      rw [Ideal.div_coe hN']
      generalize ∑ i, r i = t at hs
      generalize r i = u
      induction t with
      | coe a => exact absurd ⟨a, rfl⟩ hs
      | top => rw [EReal.top_mul_coe_of_pos hp]; induction u <;> simp
      | bot =>
        rw [EReal.bot_mul_coe_of_pos hp]
        induction u with
        | bot => simp
        | top => simp
        | coe u => simp
    have ht : (∑ _i : Fin N, (⊤ : EReal)) = ⊤ := by
      rw [Finset.sum_const, Finset.card_univ, Fintype.card_fin, EReal.nsmul_eq_mul]
      exact EReal.mul_top_of_pos (by exact_mod_cast hN)
    simp only [hd]
    refine ⟨fun _ => 0, by simp, fun i => ?_⟩
    rw [ht, Ideal.div_coe hN' ⊤, EReal.top_mul_coe_of_pos hp, EReal.top_add_coe, Ideal.sqrt_top, Ideal.div, if_neg (by simp),
      EReal.inv_top, mul_zero, EReal.coe_zero]

/-- Normalized values times a real scale, and a shift `b` added to each, have mean `b`, an infinite `b` included. -/
theorem mean_shift (N : ℕ) (hN : 0 < N) (f : Fin N → EReal) (hf : ∃ q : Fin N → ℝ, ∑ i, q i = 0 ∧ ∀ i, f i = (q i : EReal))
    (g b : EReal) (hg : ∃ a : ℝ, g = (a : EReal)) : Ideal.div (∑ i, (f i * g + b)) ((N : ℝ) : EReal) = b := by
  obtain ⟨q, h0, hq⟩ := hf
  obtain ⟨a, rfl⟩ := hg
  have h1 : ∑ i, f i * (a : EReal) = 0 := by
    have : ∑ i, f i * (a : EReal) = ((∑ i, q i * a : ℝ) : EReal) := by
      rw [coe_sum]
      exact Finset.sum_congr rfl fun i _ => by rw [hq i, EReal.coe_mul]
    rw [this, ← Finset.sum_mul, h0, zero_mul, EReal.coe_zero]
  rw [Finset.sum_add_distrib, h1, zero_add]
  exact mean_const N hN b

set_option maxHeartbeats 1000000 in
/-- The same over arrays, as the reference writes it: the result is the shift, column by column. -/
theorem norm_mean {x : FVec Ideal S50000x128 .f32} {g b : FVec Ideal S128 .f32} (k : Fin 128)
    (hg : ∃ a : ℝ, g (ix1 k) = (a : EReal)) {z : FVec Ideal S128 .f32} {x5 : FVec Ideal S50000x128 .f32} {x8 : FVec Ideal S_ .f32}
    (h5 : x5 = subf x (broadcastInDim S50000x128 ![0, 1] bcast_S1x128_S50000x128_0_1 (Host.divf (broadcastInDim S1x128 ![1]
      bcast_S128_S1x128_1 (Host.reduceAdd x (constant (F := Ideal) S_ .f32 0x00000000#32) reducesTo_S50000x128_S128_d0 h_S_))
      (broadcastInDim S1x128 ![] bcast_S_S1x128 (constant (F := Ideal) S_ .f32 0x47435000#32)))))
    (h8 : x8 = subf (constant (F := Ideal) S_ .f32 0x47435000#32) (sitofp .f32 (constantI S_ 32 0#32))) :
    (Host.divf (Host.reduceAdd (addf (mulf (Host.divf (subf x (broadcastInDim S50000x128 ![0, 1] bcast_S1x128_S50000x128_0_1
        (broadcastInDim S1x128 ![1] bcast_S128_S1x128_1 (Host.divf (Host.reduceAdd x (constant (F := Ideal) S_ .f32 0x00000000#32)
          reducesTo_S50000x128_S128_d0 h_S_) (broadcastInDim S128 ![] bcast_S_S128 (constant (F := Ideal) S_ .f32 0x47435000#32))))))
        (broadcastInDim S50000x128 ![0, 1] bcast_S1x128_S50000x128_0_1 (broadcastInDim S1x128 ![1] bcast_S128_S1x128_1
          (Host.sqrt (addf (select (broadcastInDim S128 ![] bcast_S_S128 (cmpf .ogt x8 (constant (F := Ideal) S_ .f32 0x00000000#32)))
            (Host.divf (Host.reduceAdd (mulf x5 x5) (constant (F := Ideal) S_ .f32 0x00000000#32) reducesTo_S50000x128_S128_d0 h_S_)
              (broadcastInDim S128 ![] bcast_S_S128 x8)) z)
            (broadcastInDim S128 ![] bcast_S_S128 (constant (F := Ideal) S_ .f32 0x3727C5AC#32)))))))
        (broadcastInDim S50000x128 ![0, 1] bcast_S1x128_S50000x128_0_1 (broadcastInDim S1x128 ![1] bcast_S128_S1x128_1 g)))
        (broadcastInDim S50000x128 ![0, 1] bcast_S1x128_S50000x128_0_1 (broadcastInDim S1x128 ![1] bcast_S128_S1x128_1 b)))
      (constant (F := Ideal) S_ .f32 0x00000000#32) reducesTo_S50000x128_S128_d0 h_S_)
      (broadcastInDim S128 ![] bcast_S_S128 (constant (F := Ideal) S_ .f32 0x47435000#32)) : FVec Ideal S128 .f32) (ix1 k)
      = b (ix1 k) := by
  subst h5
  subst h8
  pointwise []
  obtain ⟨e, he, hw⟩ := word_eps
  rw [word_left, hw, word_count, if_pos (by exact_mod_cast (by norm_num : (0 : ℝ) < 50000))]
  exact mean_shift 50000 (by norm_num) _ (normalized 50000 (by norm_num) (fun n => x (ix2 n k)) e he) _ _ hg

end Cert.Proof

end
-- ==== Proof.KernelValue.lean ====
/- What the kernel returns: the decoder of the shift's last row, the action and the weights. -/
module

public import proofs.«01_k».proof.Proof.Gen.KernelIdeal.Frame
public import Idealize.ShloMosaic.Lib.Pointwise
public import Idealize.ShloMosaic.Lib.Pipeline.ValueKit
public import Idealize.ShloMosaic.Lib.Claim

@[expose] public section

set_option maxRecDepth 16384

noncomputable section

namespace Cert.Proof

open Idealize.ShloMosaic Idealize.SL.Sem Cert.KernelIdeal Cert.KernelIdeal.Gen

/-- The three dense layers of the decoder, the first one's weights in two parts: of the node mean and of the action. -/
def decode (xm : Fin 128 → EReal) (ac : Fin 3 → EReal) (w1 : Fin 128 → Fin 64 → EReal) (w1' : Fin 3 → Fin 64 → EReal)
    (b1 : Fin 64 → EReal) (w2 : Fin 64 → Fin 32 → EReal) (b2 : Fin 32 → EReal) (w3 : Fin 32 → EReal) (b3 : EReal) : EReal :=
  (∑ k : Fin 32, max ((∑ j : Fin 64, max ((∑ i : Fin 128, xm i * w1 i j) + (∑ a : Fin 3, ac a * w1' a j) + b1 j) 0 * w2 j k)
    + b2 k) 0 * w3 k) + b3

variable (m : (ℓ : Loc nD τ sig) → Buf (Elt Ideal) ℓ) (c : Dev nD)

theorem payload (x0 : Vec Ideal S1x128 .f32) (x1 : Vec Ideal S1x3 .f32) (x2 : Vec Ideal S128x64 .f32)
    (x3 : Vec Ideal S3x64 .f32) (x4 : Vec Ideal S1x64 .f32) (x5 : Vec Ideal S64x32 .f32) (x6 : Vec Ideal S1x32 .f32)
    (x7 : Vec Ideal S32x1 .f32) (x8 : Vec Ideal S1x1 .f32) (y : S1x1.Idx) :
    k0_pay1 (F := Ideal) (k0_pay2 (F := Ideal) x0 x1 x2 x3 x4 x5 x6) (k0_pay3 (F := Ideal) x7) (constant S1x1 .f32 0x00000000#32) x8 y
      = decode (fun i => x0 (ix2 0 i)) (fun a => x1 (ix2 0 a)) (fun i j => x2 (ix2 i j)) (fun a j => x3 (ix2 a j))
          (fun j => x4 (ix2 0 j)) (fun j k => x5 (ix2 j k)) (fun k => x6 (ix2 0 k)) (fun k => x7 (ix2 k 0))
          (x8 (ix2 0 0)) := by
  idx_vars y
  pointwise [k0_pay1, k0_pay2, k0_pay3, decode]
  obtain rfl : y0 = 0 := Subsingleton.elim _ _
  obtain rfl : y1 = 0 := Subsingleton.elim _ _
  rfl

/-- The decoder of the kernel's arguments: the shift's last row, the action and the weights. -/
def answer : EReal :=
  decode (fun i => (m ((c.tc : Thread nD τ).loc main_arg14) : Vec Ideal S6x128 .f32) (ix2 5 i))
    (fun a => (m ((c.tc : Thread nD τ).loc main_arg1) : Vec Ideal S3 .f32) (ix1 a))
    (fun i j => (m ((c.tc : Thread nD τ).loc main_arg15) : Vec Ideal S131x64 .f32) (ix2 (i.castAdd 3) j))
    (fun a j => (m ((c.tc : Thread nD τ).loc main_arg15) : Vec Ideal S131x64 .f32) (ix2 (a.natAdd 128) j))
    (fun j => (m ((c.tc : Thread nD τ).loc main_arg16) : Vec Ideal S64 .f32) (ix1 j))
    (fun j k => (m ((c.tc : Thread nD τ).loc main_arg17) : Vec Ideal S64x32 .f32) (ix2 j k))
    (fun k => (m ((c.tc : Thread nD τ).loc main_arg18) : Vec Ideal S32 .f32) (ix1 k))
    (fun k => (m ((c.tc : Thread nD τ).loc main_arg19) : Vec Ideal S32x1 .f32) (ix2 k 0))
    ((m ((c.tc : Thread nD τ).loc main_arg20) : Vec Ideal S1 .f32) (ix1 0))

theorem entry_v2 : (V m c main_v2 : Vec Ideal S1x128 .f32) =
    shapeCast S1x128 (shapeCast S128 (extractStridedSlice S1x128 ![5, 0] (m ((c.tc : Thread nD τ).loc main_arg14) : Vec Ideal S6x128 .f32) slices_S6x128_S1x128_5_0) shapeCasts_S1x128_S128) shapeCasts_S128_S1x128 := by
  show StableHlo.after hostOps0 _ _ = _
  after_results
  rfl
theorem entry_v3 : (V m c main_v3 : Vec Ideal S1x3 .f32) =
    shapeCast S1x3 (m ((c.tc : Thread nD τ).loc main_arg1) : Vec Ideal S3 .f32) shapeCasts_S3_S1x3 := by
  show StableHlo.after hostOps0 _ _ = _
  after_results
  rfl
theorem entry_v4 : (V m c main_v4 : Vec Ideal S128x64 .f32) =
    extractStridedSlice S128x64 ![0, 0] (m ((c.tc : Thread nD τ).loc main_arg15) : Vec Ideal S131x64 .f32) slices_S131x64_S128x64_0_0 := by
  show StableHlo.after hostOps0 _ _ = _
  after_results
theorem entry_v5 : (V m c main_v5 : Vec Ideal S3x64 .f32) =
    extractStridedSlice S3x64 ![128, 0] (m ((c.tc : Thread nD τ).loc main_arg15) : Vec Ideal S131x64 .f32) slices_S131x64_S3x64_128_0 := by
  show StableHlo.after hostOps0 _ _ = _
  after_results
theorem entry_v6 : (V m c main_v6 : Vec Ideal S1x64 .f32) =
    shapeCast S1x64 (m ((c.tc : Thread nD τ).loc main_arg16) : Vec Ideal S64 .f32) shapeCasts_S64_S1x64 := by
  show StableHlo.after hostOps0 _ _ = _
  after_results
  rfl
theorem entry_v7 : (V m c main_v7 : Vec Ideal S1x32 .f32) =
    shapeCast S1x32 (m ((c.tc : Thread nD τ).loc main_arg18) : Vec Ideal S32 .f32) shapeCasts_S32_S1x32 := by
  show StableHlo.after hostOps0 _ _ = _
  after_results
  rfl
theorem entry_v8 : (V m c main_v8 : Vec Ideal S1x1 .f32) =
    shapeCast S1x1 (m ((c.tc : Thread nD τ).loc main_arg20) : Vec Ideal S1 .f32) shapeCasts_S1_S1x1 := by
  show StableHlo.after hostOps0 _ _ = _
  after_results
  rfl

theorem read0 (i : Fin 128) : iblk m c 0 t0_0 (ix2 0 i) =
    (m ((c.tc : Thread nD τ).loc main_arg14) : Vec Ideal S6x128 .f32) (ix2 5 i) := by
  have h : (win0_0.blk t0_0).view.emb (ix2 0 i) = ix2 0 i := by
    have i0 : win0_0.index t0_0 = ![0, 0] := by decide +kernel
    blk_ext [i0]
  show V m c main_v2 ((win0_0.blk t0_0).view.emb (ix2 0 i)) = _
  rw [h]
  rw [entry_v2]
  pointwise []

theorem read1 (a : Fin 3) : iblk m c 1 t0_0 (ix2 0 a) =
    (m ((c.tc : Thread nD τ).loc main_arg1) : Vec Ideal S3 .f32) (ix1 a) := by
  have h : (win0_1.blk t0_0).view.emb (ix2 0 a) = ix2 0 a := by
    have i0 : win0_1.index t0_0 = ![0, 0] := by decide +kernel
    blk_ext [i0]
  show V m c main_v3 ((win0_1.blk t0_0).view.emb (ix2 0 a)) = _
  rw [h]
  rw [entry_v3]
  pointwise []

theorem read2 (i : Fin 128) (j : Fin 64) : iblk m c 2 t0_0 (ix2 i j) =
    (m ((c.tc : Thread nD τ).loc main_arg15) : Vec Ideal S131x64 .f32) (ix2 (i.castAdd 3) j) := by
  have h : (win0_2.blk t0_0).view.emb (ix2 i j) = ix2 i j := by
    have i0 : win0_2.index t0_0 = ![0, 0] := by decide +kernel
    blk_ext [i0]
  show V m c main_v4 ((win0_2.blk t0_0).view.emb (ix2 i j)) = _
  rw [h]
  rw [entry_v4]
  pointwise []
  rfl

theorem read3 (a : Fin 3) (j : Fin 64) : iblk m c 3 t0_0 (ix2 a j) =
    (m ((c.tc : Thread nD τ).loc main_arg15) : Vec Ideal S131x64 .f32) (ix2 (a.natAdd 128) j) := by
  have h : (win0_3.blk t0_0).view.emb (ix2 a j) = ix2 a j := by
    have i0 : win0_3.index t0_0 = ![0, 0] := by decide +kernel
    blk_ext [i0]
  show V m c main_v5 ((win0_3.blk t0_0).view.emb (ix2 a j)) = _
  rw [h]
  rw [entry_v5]
  pointwise []
  rfl

theorem read4 (j : Fin 64) : iblk m c 4 t0_0 (ix2 0 j) =
    (m ((c.tc : Thread nD τ).loc main_arg16) : Vec Ideal S64 .f32) (ix1 j) := by
  have h : (win0_4.blk t0_0).view.emb (ix2 0 j) = ix2 0 j := by
    have i0 : win0_4.index t0_0 = ![0, 0] := by decide +kernel
    blk_ext [i0]
  show V m c main_v6 ((win0_4.blk t0_0).view.emb (ix2 0 j)) = _
  rw [h]
  rw [entry_v6]
  pointwise []

theorem read5 (j : Fin 64) (k : Fin 32) : iblk m c 5 t0_0 (ix2 j k) =
    (m ((c.tc : Thread nD τ).loc main_arg17) : Vec Ideal S64x32 .f32) (ix2 j k) := by
  have h : (win0_5.blk t0_0).view.emb (ix2 j k) = ix2 j k := by
    have i0 : win0_5.index t0_0 = ![0, 0] := by decide +kernel
    blk_ext [i0]
  show V m c main_arg17 ((win0_5.blk t0_0).view.emb (ix2 j k)) = _
  rw [h]
  rw [V_main_arg17]

theorem read6 (k : Fin 32) : iblk m c 6 t0_0 (ix2 0 k) =
    (m ((c.tc : Thread nD τ).loc main_arg18) : Vec Ideal S32 .f32) (ix1 k) := by
  have h : (win0_6.blk t0_0).view.emb (ix2 0 k) = ix2 0 k := by
    have i0 : win0_6.index t0_0 = ![0, 0] := by decide +kernel
    blk_ext [i0]
  show V m c main_v7 ((win0_6.blk t0_0).view.emb (ix2 0 k)) = _
  rw [h]
  rw [entry_v7]
  pointwise []

theorem read7 (k : Fin 32) : iblk m c 7 t0_0 (ix2 k 0) =
    (m ((c.tc : Thread nD τ).loc main_arg19) : Vec Ideal S32x1 .f32) (ix2 k 0) := by
  have h : (win0_7.blk t0_0).view.emb (ix2 k 0) = ix2 k 0 := by
    have i0 : win0_7.index t0_0 = ![0, 0] := by decide +kernel
    blk_ext [i0]
  show V m c main_arg19 ((win0_7.blk t0_0).view.emb (ix2 k 0)) = _
  rw [h]
  rw [V_main_arg19]

theorem read8 : iblk m c 8 t0_0 (ix2 0 0) =
    (m ((c.tc : Thread nD τ).loc main_arg20) : Vec Ideal S1 .f32) (ix1 0) := by
  have h : (win0_8.blk t0_0).view.emb (ix2 0 0) = ix2 0 0 := by
    have i0 : win0_8.index t0_0 = ![0, 0] := by decide +kernel
    blk_ext [i0]
  show V m c main_v8 ((win0_8.blk t0_0).view.emb (ix2 0 0)) = _
  rw [h]
  rw [entry_v8]
  pointwise []

/-- The body's payload, at the windows' blocks. -/
theorem payload_blocks (y : S1x1.Idx) :
    k0_pay1 (F := Ideal) (k0_pay2 (F := Ideal) (iblk m c 0 t0_0) (iblk m c 1 t0_0) (iblk m c 2 t0_0) (iblk m c 3 t0_0)
      (iblk m c 4 t0_0) (iblk m c 5 t0_0) (iblk m c 6 t0_0)) (k0_pay3 (F := Ideal) (iblk m c 7 t0_0))
      (constant S1x1 .f32 0x00000000#32) (iblk m c 8 t0_0) y = answer m c := by
  refine (payload _ _ _ _ _ _ _ _ _ y).trans ?_
  simp only [read0, read1, read2, read3, read4, read5, read6, read7, read8, answer]

set_option maxHeartbeats 2000000 in
/-- What the region leaves in its output. -/
theorem region_out : (dats m 0 c).arrAt 9 (cfgs 0).N = fun _ => answer m c := by
  refine (dats m 0 c).arrAt_eq_of_covers 9 _ (by decide +kernel) fun t hf y => ?_
  obtain rfl : t = t0_0 := fin_N0 t
  blk_simp
  rw [after0_9]
  frame_out
  exact payload_blocks m c y

/-- The output's array, after the region. -/
theorem out_v9 : Pipeline.withArrays (cfgs 0).spec c (V0 m c) (fun w => (dats m 0 c).arrAt w (cfgs 0).N)
    (Proc.devRef .tc main_v9) = fun _ => answer m c :=
  (Pipeline.withArrays_arr spec0 winFacts0.arr_inj c (V0 m c) (fun w => (dats m 0 c).arrAt w (cfgs 0).N) 9).trans
    (region_out m c)

/-- The kernel's run: its one result is the decoder's answer. -/
theorem kernel_run (g : Dev nD → PrngReg) : θ_run (defs (F := Ideal)) (onTc (τ := τ) (main (F := Ideal))) ⟨m, fun _ => 0, g⟩
    (fun r => ∀ c : Dev nD, r.2.mem ((c.tc : Thread nD τ).loc main_v10) = fun _ => answer m c) := by
  run_from run_main m g
  unfold Pipeline.afterTail₀
  rw [List.flatten_singleton]
  after_results
  rw [out_v9]
  rfl

end Cert.Proof

end
-- ==== Proof.Decoder.lean ====
/- The reference's decoder, read at its one index: the same three dense layers, the first one's sum in two parts. -/
module

public import proofs.«01_k».proof.Proof.Gen.ReferenceIdeal.Run
public import proofs.«01_k».proof.Proof.KernelValue
public import Idealize.ShloMosaic.Lib.Pointwise

@[expose] public section

set_option maxRecDepth 16384

noncomputable section

namespace Cert.Proof

open Idealize.ShloMosaic Idealize.SL.Sem Cert.ReferenceIdeal Cert.ReferenceIdeal.Gen

theorem decoder_reads (xm : FVec Ideal S128 .f32) (ac : FVec Ideal S3 .f32) (w1 : FVec Ideal S131x64 .f32)
    (b1 : FVec Ideal S64 .f32) (w2 : FVec Ideal S64x32 .f32) (b2 : FVec Ideal S32 .f32) (w3 : FVec Ideal S32x1 .f32)
    (b3 : FVec Ideal S1 .f32) (y : S1.Idx) :
    (addf (Host.dotGeneral dot_S32_S32x1_S1_0_0_n_1_n_n none (maximumf (addf (Host.dotGeneral dot_S64_S64x32_S32_0_0_n_1_n_n none
      (maximumf (addf (Host.dotGeneral dot_S131_S131x64_S64_0_0_n_1_n_n none (concatenate S131 0 [⟨S128, xm⟩, ⟨S3, ac⟩]
        concatenates_S128_S3_S131_d0) w1) b1) (broadcastInDim S64 ![] bcast_S_S64 (constant (F := Ideal) S_ .f32 0x00000000#32))) w2) b2)
      (broadcastInDim S32 ![] bcast_S_S32 (constant (F := Ideal) S_ .f32 0x00000000#32))) w3) b3 : FVec Ideal S1 .f32) y
      = decode (fun i => xm (ix1 i)) (fun a => ac (ix1 a)) (fun i j => w1 (ix2 (i.castAdd 3) j))
          (fun a j => w1 (ix2 (a.natAdd 128) j)) (fun j => b1 (ix1 j)) (fun j k => w2 (ix2 j k)) (fun k => b2 (ix1 k))
          (fun k => w3 (ix2 k 0)) (b3 (ix1 0)) := by
  idx_vars y
  pointwise [decode]
  obtain rfl : y0 = 0 := Subsingleton.elim _ _
  rfl

end Cert.Proof

end
-- ==== Proof.lean ====
/- The kernel against its reference: the frames, and the one result's value over the reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal

public import proofs.«01_k».proof.Proof.Gen.ReferenceIdeal.Run
public import proofs.«01_k».proof.Proof.Mean
public import proofs.«01_k».proof.Proof.Decoder
public import proofs.«01_k».proof.Proof.KernelValue
public import Idealize.ShloMosaic.Adequacy
public import Idealize.ShloMosaic.Init
public import Idealize.ShloMosaic.Lib.Pointwise

@[expose] public section

noncomputable section

set_option maxRecDepth 16384

namespace Cert.Proof

open Idealize.ShloMosaic Idealize.SL.Sem Idealize.ShloMosaic.StableHlo

/-- The relations of shapes that the precondition's function states. -/
instance preFacts : Cert.Pre_last_scale_finite.Facts where
  slices_S6x128_S1x128_5_0 := by decide
  shapeCasts_S1x128_S128 := by decide
  bcast_S_S128 := by decide

/-- The last row of six, read at a place. -/
theorem row_five (x : FVec Ideal Cert.ReferenceIdeal.S6x128 .f32)
    (h : Cert.ReferenceIdeal.S6x128.Slices ![5, 0] Cert.ReferenceIdeal.S1x128)
    (h' : Cert.ReferenceIdeal.S1x128.ShapeCasts Cert.ReferenceIdeal.S128) (k : Fin 128) :
    (shapeCast Cert.ReferenceIdeal.S128 (extractStridedSlice Cert.ReferenceIdeal.S1x128 ![5, 0] x h) h' :
      FVec Ideal Cert.ReferenceIdeal.S128 .f32) (ix1 k) = x (ix2 5 k) := by
  pointwise []

/-- The reference changes no argument and has no semaphore. -/
theorem reference_quiet : Cert.quiescent_ReferenceIdeal (hReferenceIdeal := Cert.ReferenceIdeal.Gen.facts) :=
  fun m g _ => (θ_run _ _ _).mono (fun _ h => ⟨fun c => (h c).2, funext fun s => nomatch s⟩)
    (Cert.ReferenceIdeal.Value.run m g)

/-- Kernel and reference return the same value. -/
theorem same_value : Cert.algebraic_KernelIdeal_ReferenceIdeal_pre_last_scale_finite
    (hKernelIdeal := Cert.KernelIdeal.Gen.facts) (hReferenceIdeal := Cert.ReferenceIdeal.Gen.facts)
    (hPre_last_scale_finite := preFacts) := by
  intro m g m' g' hpre hagree
  refine ⟨fun c => fun _ => answer m c, ?_, ?_⟩
  · exact (θ_run _ _ _).mono (fun _ h c => ⟨h.1 c, h.2 c⟩) (θ_run_and (kernel_run m g) (Cert.KernelIdeal.Gen.unchanged m g))
  · refine (θ_run _ _ _).mono (fun _ h c => ⟨(h c).1.trans (funext fun y => (decoder_reads _ _ _ _ _ _ _ _ y).trans ?_), (h c).2⟩)
      (Cert.ReferenceIdeal.Value.run m' g')
    obtain ⟨e0, e1, e2, e3, e4, e5, e6, e7, e8, e9, e10, e11, e12, e13, e14, e15, e16, e17, e18, e19, e20⟩ := hagree c
    have hg (i : Fin 128) : ∃ a : ℝ, (shapeCast Cert.ReferenceIdeal.S128 (extractStridedSlice Cert.ReferenceIdeal.S1x128 ![5, 0]
        (launchContents m' c (Proc.devRef .tc Cert.ReferenceIdeal.main_arg13)) Cert.ReferenceIdeal.Gen.slices_S6x128_S1x128_5_0)
        Cert.ReferenceIdeal.Gen.shapeCasts_S1x128_S128 : FVec Ideal Cert.ReferenceIdeal.S128 .f32) (ix1 i) = (a : EReal) := by
      rw [show launchContents m' c (Proc.devRef .tc Cert.ReferenceIdeal.main_arg13) = _ from e13]
      exact real_of_abs_lt (congrFun (hpre c) (ix1 i))
    refine (congrArg (fun xm => decode xm _ _ _ _ _ _ _ _) (funext fun i =>
      (norm_mean i (hg i) rfl rfl).trans (row_five _ _ _ i))).trans ?_
    show _ = answer m c
    unfold answer
    rw [← e1, ← e14, ← e15, ← e16, ← e17, ← e18, ← e19, ← e20]

/-- The frames of the three programs, and the value. -/
theorem claim : Cert.Claim :=
  ⟨Cert.Kernel.Gen.facts, Cert.KernelIdeal.Gen.facts, Cert.ReferenceIdeal.Gen.facts, preFacts,
    fun m g _ => Cert.Kernel.Gen.frame m g,
    fun m g _ => Cert.KernelIdeal.Gen.frame m g,
    fun m g _ => Cert.KernelIdeal.Gen.frame m g,
    reference_quiet,
    fun m g _ => reference_quiet m g trivial,
    trivial,
    same_value⟩

end Cert.Proof

end
